-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 512]⟩ ⟨2, ![1024, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x16 : Shape := ⟨2, ![256, 16]⟩
abbrev S1024x1 : Shape := ⟨2, ![1024, 1]⟩
abbrev S4x256x512 : Shape := ⟨3, ![4, 256, 512]⟩
abbrev S256x512 : Shape := ⟨2, ![256, 512]⟩
abbrev S3x256x512 : Shape := ⟨3, ![3, 256, 512]⟩
abbrev S3 : Shape := ⟨1, ![3]⟩
abbrev S_ : Shape := ⟨0, ![]⟩
abbrev S256x256 : Shape := ⟨2, ![256, 256]⟩
abbrev S256 : Shape := ⟨1, ![256]⟩
abbrev S256x1 : Shape := ⟨2, ![256, 1]⟩
abbrev S1x256x512 : Shape := ⟨3, ![1, 256, 512]⟩
abbrev S1 : Shape := ⟨1, ![1]⟩

abbrev nBuf : Space → Nat
  | .hbm => 6
  | .vmem => 8
  | .smem => 0
  | _ => 0

abbrev bufTy : (tb : Table) → Fin (tcTables nBuf tb) → BufTy
  | .hbm, ⟨0, _⟩ => ⟨S1024x256, .bf16⟩
  | .hbm, ⟨1, _⟩ => ⟨S256x16, .bf16⟩
  | .hbm, ⟨2, _⟩ => ⟨S1024x1, .i32⟩
  | .hbm, ⟨3, _⟩ => ⟨S4x256x512, .bf16⟩
  | .hbm, ⟨4, _⟩ => ⟨S256x512, .bf16⟩
  | .hbm, ⟨5, _⟩ => ⟨S256x512, .f32⟩
  | .local _ .vmem, ⟨0, _⟩ => ⟨S1024x256, .bf16⟩
  | .local _ .vmem, ⟨1, _⟩ => ⟨S256x16, .bf16⟩
  | .local _ .vmem, ⟨2, _⟩ => ⟨S1024x1, .i32⟩
  | .local _ .vmem, ⟨3, _⟩ => ⟨S4x256x512, .bf16⟩
  | .local _ .vmem, ⟨4, _⟩ => ⟨S256x512, .bf16⟩
  | .local _ .vmem, ⟨5, _⟩ => ⟨S256x512, .f32⟩
  | .local _ .vmem, ⟨6, _⟩ => ⟨S3x256x512, .bf16⟩
  | .local _ .vmem, ⟨7, _⟩ => ⟨S3x256x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c2_i32_12 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v17 : BitVec 32 := Scalar.addi v2 c2_i32_12
  let c4_i32_13 : BitVec 32 := 4#32
  let v18 : BitVec 32 := Scalar.remsi v17 c4_i32_13
  let c256_i32 : BitVec 32 := 256#32
  let v19 : BitVec 32 := Scalar.muli v18 c256_i32
  let v20 : Index := Scalar.indexCast v19
  let c0 : Index := 0#32
  ![v20.toNat, 0]
def k0_off2 (d0 : Dev nD) (c2_i32_12 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v17 : BitVec 32 := Scalar.addi v2 c2_i32_12
  let c4_i32_13 : BitVec 32 := 4#32
  let v18 : BitVec 32 := Scalar.remsi v17 c4_i32_13
  let c256_i32_18 : BitVec 32 := 256#32
  let v35 : BitVec 32 := Scalar.muli v18 c256_i32_18
  let v36 : Index := Scalar.indexCast v35
  let c0_19 : Index := 0#32
  ![v36.toNat, 0]
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_12 : BitVec 32 := 2#32
  let v17 : BitVec 32 := Scalar.addi v2 c2_i32_12
  let c4_i32_13 : BitVec 32 := 4#32
  let v18 : BitVec 32 := Scalar.remsi v17 c4_i32_13
  let c1_i32_62 : BitVec 32 := 1#32
  let v116 : BitVec 32 := Scalar.muli v18 c1_i32_62
  let v117 : BitVec 32 := Scalar.addi c0_i32_63 v116
  v117.toNat
def k0_dev5 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_68 : BitVec 32 := 1#32
  let v126 : BitVec 32 := Scalar.addi v2 c1_i32_68
  let c4_i32_69 : BitVec 32 := 4#32
  let v127 : BitVec 32 := Scalar.remsi v126 c4_i32_69
  let c1_i32_123 : BitVec 32 := 1#32
  let v225 : BitVec 32 := Scalar.muli v127 c1_i32_123
  let v226 : BitVec 32 := Scalar.addi c0_i32_124 v225
  v226.toNat
def k0_dev6 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_129 : BitVec 32 := 3#32
  let v235 : BitVec 32 := Scalar.addi v2 c3_i32_129
  let c4_i32_130 : BitVec 32 := 4#32
  let v236 : BitVec 32 := Scalar.remsi v235 c4_i32_130
  let c1_i32_184 : BitVec 32 := 1#32
  let v334 : BitVec 32 := Scalar.muli v236 c1_i32_184
  let v335 : BitVec 32 := Scalar.addi c0_i32_185 v334
  v335.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_190 : BitVec 32 := 256#32
  let v344 : BitVec 32 := Scalar.muli v2 c256_i32_190
  let v345 : Index := Scalar.indexCast v344
  let c0_191 : Index := 0#32
  ![v345.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_197 : BitVec 32 := 256#32
  let v360 : BitVec 32 := Scalar.muli v2 c256_i32_197
  let v361 : Index := Scalar.indexCast v360
  let c0_198 : Index := 0#32
  ![v361.toNat, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x256 : Shape := ⟨2, ![1024, 256]⟩
abbrev S256x16 : Shape := ⟨2, ![256, 16]⟩
abbrev S1024x1 : Shape := ⟨2, ![1024, 1]⟩
abbrev S16x256x512 : Shape := ⟨3, ![16, 256, 512]⟩
abbrev S256x512 : Shape := ⟨2, ![256, 512]⟩
abbrev S1024x16 : Shape := ⟨2, ![1024, 16]⟩
abbrev S_ : Shape := ⟨0, ![]⟩
abbrev S1024 : Shape := ⟨1, ![1024]⟩
abbrev S1024x512 : Shape := ⟨2, ![1024, 512]⟩
abbrev S1024x1x1 : Shape := ⟨3, ![1024, 1, 1]⟩
abbrev S1024x256x512 : Shape := ⟨3, ![1024, 256, 512]⟩

abbrev nBuf : Space → Nat
  | .hbm => 50
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x16, .bf16⟩
  | .hbm, ⟨2, _⟩ => ⟨S1024x1, .i32⟩
  | .hbm, ⟨3, _⟩ => ⟨S16x256x512, .bf16⟩
  | .hbm, ⟨4, _⟩ => ⟨S256x512, .bf16⟩
  | .hbm, ⟨5, _⟩ => ⟨S1024x256, .f32⟩
  | .hbm, ⟨6, _⟩ => ⟨S256x16, .f32⟩
  | .hbm, ⟨7, _⟩ => ⟨S1024x16, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x16, .f32⟩
  | .hbm, ⟨12, _⟩ => ⟨S1024x16, .f32⟩
  | .hbm, ⟨13, _⟩ => ⟨S1024x16, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x16, .f32⟩
  | .hbm, ⟨18, _⟩ => ⟨S1024x16, .f32⟩
  | .hbm, ⟨19, _⟩ => ⟨S256x512, .f32⟩
  | .hbm, ⟨20, _⟩ => ⟨S1024x512, .f32⟩
  | .hbm, ⟨21, _⟩ => ⟨S1024, .i32⟩
  | .hbm, ⟨22, _⟩ => ⟨S_, .i32⟩
  | .hbm, ⟨23, _⟩ => ⟨S1024x1, .i32⟩
  | .hbm, ⟨24, _⟩ => ⟨S1024x1, .i1⟩
  | .hbm, ⟨25, _⟩ => ⟨S_, .i32⟩
  | .hbm, ⟨26, _⟩ => ⟨S1024x1, .i32⟩
  | .hbm, ⟨27, _⟩ => ⟨S1024x1, .i32⟩
  | .hbm, ⟨28, _⟩ => ⟨S1024x1, .i32⟩
  | .hbm, ⟨29, _⟩ => ⟨S1024x1x1, .i32⟩
  | .hbm, ⟨30, _⟩ => ⟨S1024x1, .f32⟩
  | .hbm, ⟨31, _⟩ => ⟨S16x256x512, .f32⟩
  | .hbm, ⟨32, _⟩ => ⟨S1024x1, .i32⟩
  | .hbm, ⟨33, _⟩ => ⟨S1024x256x512, .f32⟩
  | .hbm, ⟨34, _⟩ => ⟨S1024x512, .f32⟩
  | .hbm, ⟨35, _⟩ => ⟨S_, .i32⟩
  | .hbm, ⟨36, _⟩ => ⟨S1024x1, .i32⟩
  | .hbm, ⟨37, _⟩ => ⟨S1024x1, .i1⟩
  | .hbm, ⟨38, _⟩ => ⟨S_, .i32⟩
  | .hbm, ⟨39, _⟩ => ⟨S1024x1, .i32⟩
  | .hbm, ⟨40, _⟩ => ⟨S1024x1, .i1⟩
  | .hbm, ⟨41, _⟩ => ⟨S1024x1, .i1⟩
  | .hbm, ⟨42, _⟩ => ⟨S1024x512, .f32⟩
  | .hbm, ⟨43, _⟩ => ⟨S1024x512, .f32⟩
  | .hbm, ⟨44, _⟩ => ⟨S_, .f32⟩
  | .hbm, ⟨45, _⟩ => ⟨S_, .f32⟩
  | .hbm, ⟨46, _⟩ => ⟨S1024x512, .i1⟩
  | .hbm, ⟨47, _⟩ => ⟨S1024x512, .f32⟩
  | .hbm, ⟨48, _⟩ => ⟨S1024x512, .f32⟩
  | .hbm, ⟨49, _⟩ => ⟨S1024x512, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Proof.KernelIdeal.Cells.lean ====
/-
# The four devices' protocol: cells, slots, contents and the schedule

Device `c` sends the partial sums of three chunks of tokens, one to each other device, through three slots of a
send buffer into three slots of the receiver's landing buffer. Slot `k` of device `c`'s landing buffer is filled by
`peer c k`; slot `k` of its send buffer goes to `dst c k`.

* The barrier cell of `d`, three units in all, is raised by the three other devices. The unit of `dst d k` hands `d`
  that device's landing slot `k`, which is the slot that `d`'s copy `k` writes.
* The send cell `k` of `c` is raised once when copy `k` has read its source, which hands the send slot back.
* The receive cell `k` of `c` is raised once by the copy of `peer c k`, which hands `c` its landing slot `k` holding
  the message that `peer c k` put in its own send slot `k`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring.FamCut
public import Idealize.ShloMosaic.Lib.Tactic

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the mesh's, whose duties are the three slots -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any memory, every counter zero. -/
def s₀ : MemSt nD τ sig (Elt F) := ⟨m, fun _ => 0, ρ⟩

/-! ## Who talks to whom -/

/-- The device whose message lands in slot `k` of `c`; also the device that `c`'s signal number `k` goes to. -/
def peer (c : Dev nD) (k : Fin 3) : Dev nD := ⟨(c.val + (k.val + 1)) % 4, Nat.mod_lt _ (by show 0 < 4; omega)⟩
/-- The device that slot `k` of `c` is sent to. -/
def dst (c : Dev nD) (k : Fin 3) : Dev nD := ⟨(c.val + (3 - k.val)) % 4, Nat.mod_lt _ (by show 0 < 4; omega)⟩

theorem peer_dst (c : Dev nD) (k : Fin 3) : peer (dst c k) k = c := by revert c k; decide
theorem dst_peer (c : Dev nD) (k : Fin 3) : dst (peer c k) k = c := by revert c k; decide

theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = dst c 1 := Fin.ext (k0_dev4_eq c)
theorem dev5_eq (c : Dev nD) : (⟨k0_dev5 c, k0_dev5_lt c⟩ : Dev nD) = dst c 2 := Fin.ext (k0_dev5_eq c)
theorem dev6_eq (c : Dev nD) : (⟨k0_dev6 c, k0_dev6_lt c⟩ : Dev nD) = dst c 0 := Fin.ext (k0_dev6_eq c)

/-- The exchange along slot `k` is a bijection of the devices. -/
def along (k : Fin 3) : Dev nD ≃ Dev nD := ⟨fun c => dst c k, fun c => peer c k, fun c => peer_dst c k, fun c => dst_peer c k⟩

/-! ## The cells -/

abbrev barS : Sem sig := (SemArray.scalar (sig.barrier 0 rfl) : Sems sig S_).sem
abbrev sendS (k : Fin 3) : DmaSem sig := ⟨6 + k.val, by show 6 + k.val < 12; omega⟩
abbrev recvS (k : Fin 3) : DmaSem sig := ⟨9 + k.val, by show 9 + k.val < 12; omega⟩

theorem send_slice0 : ((cc0_scratch2.slice (Rect.unit (s := S3) ![0] S1.size inb_S3_S1_0)).squeeze S_ squeezes_S1_S_).sem = sendS 0 := rfl
theorem send_slice1 : ((cc0_scratch2.slice (Rect.unit (s := S3) ![1] S1.size inb_S3_S1_1)).squeeze S_ squeezes_S1_S_).sem = sendS 1 := rfl
theorem send_slice2 : ((cc0_scratch2.slice (Rect.unit (s := S3) ![2] S1.size inb_S3_S1_2)).squeeze S_ squeezes_S1_S_).sem = sendS 2 := rfl
theorem recv_slice0 : ((cc0_scratch3.slice (Rect.unit (s := S3) ![0] S1.size inb_S3_S1_0)).squeeze S_ squeezes_S1_S_).sem = recvS 0 := rfl
theorem recv_slice1 : ((cc0_scratch3.slice (Rect.unit (s := S3) ![1] S1.size inb_S3_S1_1)).squeeze S_ squeezes_S1_S_).sem = recvS 1 := rfl
theorem recv_slice2 : ((cc0_scratch3.slice (Rect.unit (s := S3) ![2] S1.size inb_S3_S1_2)).squeeze S_ squeezes_S1_S_).sem = recvS 2 := rfl

/-- The seven cells a device has: the barrier's (`none`), send `k` (`some (false, k)`), receive `k` (`some (true, k)`). -/
abbrev CIx : Type := Option (Bool × Fin 3)

abbrev xfer (bk : Bool × Fin 3) : DmaSem sig := if bk.1 then recvS bk.2 else sendS bk.2

abbrev csem : CIx → SemLoc sig
  | none => .reg barS
  | some (false, k) => .dma (sendS k)
  | some (true, k) => .dma (recvS k)

abbrev kcell (c : Dev nD) (i : CIx) : GSem nD τ sig := ((c : Thread nD τ), csem i)
abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- Which of a device's cells a semaphore is, if any. -/
def role : SemLoc sig → Option CIx
  | .reg s => if s = barS then some none else none
  | .dma q => if q = sendS 0 then some (some (false, 0)) else if q = sendS 1 then some (some (false, 1)) else if q = sendS 2 then some (some (false, 2))
      else if q = recvS 0 then some (some (true, 0)) else if q = recvS 1 then some (some (true, 1)) else if q = recvS 2 then some (some (true, 2)) else none

theorem role_bar : role (.reg barS) = some none := by simp only [role, if_true]
theorem role_send (k : Fin 3) : role (.dma (sendS k)) = some (some (false, k)) := by revert k; decide
theorem role_recv (k : Fin 3) : role (.dma (recvS k)) = some (some (true, k)) := by revert k; decide
theorem role_csem (i : CIx) : role (csem i) = some i := by
  rcases i with _ | ⟨_ | _, k⟩
  · exact role_bar
  · exact role_send k
  · exact role_recv k

/-! ## Slots of the two buffers -/

abbrev sM : Memref sig .tc .vmem S3x256x512 .bf16 := Memref.whole cc0_scratch0
abbrev vM : Memref sig .tc .vmem S3x256x512 .bf16 := Memref.whole cc0_scratch1

theorem slot_inb (k : Fin 3) : ∀ a, (![k.val, 0, 0] : Fin 3 → Nat) a + S1x256x512.size a ≤ S3x256x512.size a := by revert k; decide
abbrev slotR (k : Fin 3) : Rect S3x256x512 := Rect.unit (s := S3x256x512) ![k.val, 0, 0] S1x256x512.size (slot_inb k)
/-- Slot `k` as the copies and their waits name it. -/
abbrev slot (M : Memref sig .tc .vmem S3x256x512 .bf16) (k : Fin 3) : Memref sig .tc .vmem S256x512 .bf16 :=
  (M.slice (slotR k) (fun _ => rfl)).squeeze S256x512 squeezes_S1x256x512_S256x512

theorem slotR_disjoint (k k' : Fin 3) (h : k ≠ k') : Disjoint (slotR k).set (slotR k').set :=
  Rect.unit_disjoint (0 : Fin 3) (by
    have : k.val ≠ k'.val := fun e => h (Fin.ext e)
    show k.val + 1 ≤ k'.val ∨ k'.val + 1 ≤ k.val
    omega)

/-- Slot `k` of `c`'s buffer holds the block `w`. -/
def holds (M : Memref sig .tc .vmem S3x256x512 .bf16) (c : Dev nD) (k : Fin 3) (w : FVec F S1x256x512 .bf16) : sProp 𝕄 :=
  iprop(∃ f : Buf (Elt F) (M.view.loc (c : Thread nD τ)), ⌜(M.access (slotR k)).read (Elt F) f = w⌝ ∗ M.view.loc (c : Thread nD τ) ↦[(M.access (slotR k)).set]{fullShare} f)
/-- Slot `k` of `c`'s buffer, whatever it holds. -/
def someAt (M : Memref sig .tc .vmem S3x256x512 .bf16) (c : Dev nD) (k : Fin 3) : sProp 𝕄 :=
  iprop(∃ f : Buf (Elt F) (M.view.loc (c : Thread nD τ)), M.view.loc (c : Thread nD τ) ↦[(M.access (slotR k)).set]{fullShare} f)

omit [FloatOps F] in
theorem holds_some (M : Memref sig .tc .vmem S3x256x512 .bf16) (c : Dev nD) (k : Fin 3) (w : FVec F S1x256x512 .bf16) :
    holds M c k w ⊢ someAt (F := F) M c k := by
  unfold holds someAt
  iintro ⟨%f, -, H⟩
  iexists f; iexact H

omit [FloatOps F] in
instance holds_storable (M : Memref sig .tc .vmem S3x256x512 .bf16) (c : Dev nD) (k : Fin 3) (w : FVec F S1x256x512 .bf16) :
    BI.Storable (upEmb : UEmb _ 𝕄) (holds M c k w) := by unfold holds; infer_instance
omit [FloatOps F] in
instance someAt_storable (M : Memref sig .tc .vmem S3x256x512 .bf16) (c : Dev nD) (k : Fin 3) :
    BI.Storable (upEmb : UEmb _ 𝕄) (someAt (F := F) M c k) := by unfold someAt; infer_instance

theorem slot_set (M : Memref sig .tc .vmem S3x256x512 .bf16) (k : Fin 3) : (slot M k).view.set = (M.access (slotR k)).set :=
  View.set_reshape _ _

omit [FloatOps F] in
/-- A block copied from a slot of one buffer to the same slot of another reads there as it read at its source. -/
theorem read_copied (M M' : Memref sig .tc .vmem S3x256x512 .bf16) (k : Fin 3) (fd : M'.view.ty.Contents (Elt F)) (fs : M.view.ty.Contents (Elt F)) :
    (M'.access (slotR k)).read (Elt F) ((slot M' k).view.write (Elt F) fd ((slot M k).view.read (Elt F) fs) Finset.univ)
      = (M.access (slotR k)).read (Elt F) fs := by
  have h : (slot M' k).view.read (Elt F) ((slot M' k).view.write (Elt F) fd ((slot M k).view.read (Elt F) fs) Finset.univ)
      = (slot M k).view.read (Elt F) fs := View.read_write_univ _ _
  funext x
  have hx := congrFun h ((Shape.reshapeEquiv (squeezes_S1x256x512_S256x512).numel_eq).symm x)
  rw [View.read_apply, View.read_apply] at hx
  rw [View.read_apply, View.read_apply]
  simpa using hx

/-- The credit of one slot's copy. -/
abbrev N : ℕ := (slot vM 0).view.dmaCredit
theorem N_pos : 0 < N := View.dmaCredit_pos _ (by decide)

end Cert.KernelIdeal.Mesh

end
-- ==== Proof.KernelIdeal.Work.lean ====
/-
# What a device computes

The three messages a device sends and the block it returns, as functions of the blocks it loads. `sent1`, `sent2` and
`sent0` are the partial sums put in send slots 1, 2 and 0: the kernel prints each chunk's arithmetic apart, so there
is one function a slot. `own` is the device's own chunk with the shared expert, and `total` adds the three landed
messages in the order in which the kernel waits for them.
-/
module

public import proofs.«01_k».proof.Proof.KernelIdeal.Cells

@[expose] public section

noncomputable section

namespace Cert.KernelIdeal.Mesh

open Cert.KernelIdeal Cert.KernelIdeal.Gen

open Idealize.ShloMosaic
open Idealize.ShloMosaic.TcCoe
open Idealize.SL.Sem

variable {F : FTy → Type} [FloatOps F]

/-- The device's number as the kernel computes it. -/
abbrev devWord (c : Dev nD) : BitVec 32 := Scalar.remsi (Scalar.divsi (Dev.word c) 1#32) 4#32
/-- The column numbers. -/
abbrev cols : IVec S256x16 32 := iota .tc S256x16 32 [1] iota_S256x16_d1_w32

section
variable (c : Dev nD) (x : Vec F S256x256 .bf16) (rw : Vec F S256x16 .bf16) (e : Vec F S256x1 .i32) (w : Fin 4 → Vec F S1x256x512 .bf16)

/-- The message for send slot 1. -/
def sent1 : FVec F S1x256x512 .bf16 :=
  k0_pay9
    (k0_pay7 (devWord c) cols (k0_pay1 x) (k0_pay3 (k0_pay2 x rw)) (k0_pay4 e)
      (k0_pay5 (devWord c) cols (k0_pay1 x) (k0_pay2 x rw) e (w 0)) (k0_pay6 (devWord c) cols (k0_pay2 x rw) e) (w 1) (w 2))
    (k0_pay8 (devWord c) cols (k0_pay1 x) (k0_pay3 (k0_pay2 x rw)) (k0_pay4 e) (w 3))

/-- The message for send slot 2. -/
def sent2 : FVec F S1x256x512 .bf16 :=
  k0_pay17
    (k0_pay16 (devWord c) cols (k0_pay10 x) (k0_pay11 x rw) (k0_pay12 e) (k0_pay13 (devWord c) cols (k0_pay10 x) (k0_pay11 x rw) e (w 0))
      (k0_pay14 (k0_pay10 x) (w 1)) (k0_pay15 (devWord c) cols (k0_pay11 x rw) e) (w 2) (w 3))

/-- The message for send slot 0. -/
def sent0 : FVec F S1x256x512 .bf16 :=
  k0_pay24 (devWord c) cols (k0_pay18 x) (k0_pay19 x rw) (k0_pay20 e)
    (k0_pay22 (devWord c) cols (k0_pay18 x) (k0_pay19 x rw) (k0_pay20 e) k0_pay21 (w 0) (w 1))
    (Scalar.addi (Scalar.muli (devWord c) 4#32) 2#32) (k0_pay23 (devWord c) cols) (w 2) (w 3)

/-- The device's own chunk: the shared expert's block and its own partial sum. -/
def own (sw : Vec F S256x512 .bf16) : FVec F S256x512 .f32 :=
  k0_pay32 (devWord c) cols (k0_pay25 x) (k0_pay26 x rw) (k0_pay27 e)
    (k0_pay30 (devWord c) cols (k0_pay25 x) (k0_pay26 x rw) (k0_pay27 e) k0_pay28 (Scalar.addi (Scalar.muli (devWord c) 4#32) 0#32)
      (k0_pay29 (devWord c) cols x rw) (w 0) (w 1))
    (k0_pay31 (devWord c) cols (k0_pay26 x rw) (k0_pay27 e)) (w 2) (w 3) sw
end

/-- The three landed messages added to a device's own block. -/
def total (o : FVec F S256x512 .f32) (r : Fin 3 → FVec F S1x256x512 .bf16) : FVec F S256x512 .f32 :=
  k0_pay35 (k0_pay33 o (r 0) (r 2)) (k0_pay34 (r 1))

/-! ## From the staged operands -/

variable (m : (ℓ : Loc nD τ sig) → Buf (Elt F) ℓ) (ρ : Dev nD → PrngReg)

/-- The staged operands of device `c`. -/
def stg0 (c : Dev nD) : (cc0_stg0_0 : Ref sig .tc).ty.Contents (Elt F) :=
  (win0_0.blk (0 : Fin 1)).view.read (Elt F) ((s₀ m ρ).mem ((c : Thread nD τ).loc main_arg0))
def stg1 (c : Dev nD) : (cc0_stg1_0 : Ref sig .tc).ty.Contents (Elt F) :=
  (win0_1.blk (0 : Fin 1)).view.read (Elt F) ((s₀ m ρ).mem ((c : Thread nD τ).loc main_arg1))
def stg2 (c : Dev nD) : (cc0_stg2_0 : Ref sig .tc).ty.Contents (Elt F) :=
  (win0_2.blk (0 : Fin 1)).view.read (Elt F) ((s₀ m ρ).mem ((c : Thread nD τ).loc main_arg2))
def stg3 (c : Dev nD) : (cc0_stg3_0 : Ref sig .tc).ty.Contents (Elt F) :=
  (win0_3.blk (0 : Fin 1)).view.read (Elt F) ((s₀ m ρ).mem ((c : Thread nD τ).loc main_arg3))
def stg4 (c : Dev nD) : (cc0_stg4_0 : Ref sig .tc).ty.Contents (Elt F) :=
  (win0_4.blk (0 : Fin 1)).view.read (Elt F) ((s₀ m ρ).mem ((c : Thread nD τ).loc main_arg4))

abbrev M0 : Memref sig .tc .vmem S1024x256 .bf16 := Memref.whole cc0_stg0_0
abbrev M1 : Memref sig .tc .vmem S256x16 .bf16 := Memref.whole cc0_stg1_0
abbrev M2 : Memref sig .tc .vmem S1024x1 .i32 := Memref.whole cc0_stg2_0
abbrev M3 : Memref sig .tc .vmem S4x256x512 .bf16 := Memref.whole cc0_stg3_0
abbrev M4 : Memref sig .tc .vmem S256x512 .bf16 := Memref.whole cc0_stg4_0
abbrev M5 : Memref sig .tc .vmem S256x512 .f32 := Memref.whole cc0_stg5_0

/-- The tokens' rows from an offset on; their expert numbers; the router's, an expert's and the shared expert's weights. -/
abbrev ldX (c : Dev nD) (o : Fin 2 → ℕ) (h : ∀ a, o a + S256x256.size a ≤ S1024x256.size a) : Vec F S256x256 .bf16 :=
  M0.view.readAt (Elt F) (Rect.unit (s := S1024x256) o S256x256.size h).toLoadRect (stg0 m ρ c)
abbrev ldE (c : Dev nD) (o : Fin 2 → ℕ) (h : ∀ a, o a + S256x1.size a ≤ S1024x1.size a) : Vec F S256x1 .i32 :=
  M2.view.readAt (Elt F) (Rect.unit (s := S1024x1) o S256x1.size h).toLoadRect (stg2 m ρ c)
abbrev ldR (c : Dev nD) : Vec F S256x16 .bf16 :=
  M1.view.readAt (Elt F) (Rect.unit (s := S256x16) ![0, 0] S256x16.size inb_S256x16_S256x16_0_0).toLoadRect (stg1 m ρ c)
theorem ldW_inb (j : Fin 4) : ∀ a, (![j.val, 0, 0] : Fin 3 → Nat) a + S1x256x512.size a ≤ S4x256x512.size a := by revert j; decide
abbrev ldW (c : Dev nD) (j : Fin 4) : Vec F S1x256x512 .bf16 :=
  M3.view.readAt (Elt F) (Rect.unit (s := S4x256x512) ![j.val, 0, 0] S1x256x512.size (ldW_inb j)).toLoadRect (stg3 m ρ c)
abbrev ldS (c : Dev nD) : Vec F S256x512 .bf16 :=
  M4.view.readAt (Elt F) (Rect.unit (s := S256x512) ![0, 0] S256x512.size inb_S256x512_S256x512_0_0).toLoadRect (stg4 m ρ c)

/-- The message that device `c` puts in its send slot `k`. -/
def msg (c : Dev nD) : Fin 3 → FVec F S1x256x512 .bf16
  | 0 => sent0 c (ldX m ρ c (k0_off1 c 3#32) (k0_off1_inb c 2)) (ldR m ρ c) (ldE m ρ c (k0_off2 c 3#32) (k0_off2_inb c 2)) (ldW m ρ c)
  | 1 => sent1 c (ldX m ρ c (k0_off1 c 2#32) (k0_off1_inb c 1)) (ldR m ρ c) (ldE m ρ c (k0_off2 c 2#32) (k0_off2_inb c 1)) (ldW m ρ c)
  | 2 => sent2 c (ldX m ρ c (k0_off1 c 1#32) (k0_off1_inb c 0)) (ldR m ρ c) (ldE m ρ c (k0_off2 c 1#32) (k0_off2_inb c 0)) (ldW m ρ c)

/-- The result block of device `c`. -/
def outAt (c : Dev nD) : (cc0_stg5_0 : Ref sig .tc).ty.Contents (Elt F) :=
  total (own c (ldX m ρ c (k0_off3 c) (k0_off3_inb c)) (ldR m ρ c) (ldE m ρ c (k0_off4 c) (k0_off4_inb c)) (ldW m ρ c) (ldS m ρ c))
    fun k => msg m ρ (peer c k) k

end Cert.KernelIdeal.Mesh

end
-- ==== Proof.KernelIdeal.Schedule.lean ====
/-
# The schedule of the cells, and what each device owes

One round each: the barrier cell's three duties of one unit, a transfer cell's one duty of a slot's credit. What a
device owes at launch is summed so that each signal, and then each copy, takes off the last summand.
-/
module

public import proofs.«01_k».proof.Proof.KernelIdeal.Work

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each landing hands over -/

/-- Duty `k` of `d`'s barrier cell: landing slot `k` of `dst d k`, and that its receive cell is at round 0. -/
def barPay (d : Dev nD) (k : Fin 3) : sProp 𝕄 := iprop(someAt vM (dst d k) k ∗ reached ER (recvCell (dst d k) k) 0)
/-- The send cell: the send slot back. -/
def sendPay (c : Dev nD) (k : Fin 3) : sProp 𝕄 := someAt sM c k
/-- The receive cell: the landing slot, holding the sender's message. -/
def recvPay (c : Dev nD) (k : Fin 3) : sProp 𝕄 := holds vM c k (msg m ρ (peer c k) k)

/-- The payload of a cell by its role. -/
def pay (c : Dev nD) (k : Fin 3) : CIx → sProp 𝕄
  | none => barPay c k
  | some (false, j) => sendPay c j
  | some (true, j) => recvPay m ρ c j

/-- The duties of a cell by its role. -/
def dutiesOf : CIx → Finset (Fin 3)
  | none => Finset.univ
  | some _ => {0}

/-- The units of one duty of a cell by its role. -/
def unitsOf : CIx → ℕ
  | none => 1
  | some _ => N

theorem unitsOf_pos (i : CIx) : 0 < unitsOf i := by
  rcases i with _ | _
  · exact Nat.one_pos
  · exact N_pos

def meshRd : Rounds.Schedule (GSem nD τ sig) (Fin 3) 𝕄 where
  duties g r := if r = 0 ∧ g.1.2 = .tc then (role g.2).elim ∅ dutiesOf else ∅
  unitless _ := False
  amount g _ _ := (role g.2).elim 1 unitsOf
  payload g _ k := (role g.2).elim iprop(emp) (pay m ρ g.1.1 k)
  amount_pos g _ _ _ := by
    rcases h : role g.2 with _ | i
    · exact Nat.one_pos
    · exact unitsOf_pos i

omit [FloatOps F] in
instance barPay_storable (c : Dev nD) (k : Fin 3) : BI.Storable (upEmb : UEmb _ 𝕄) (barPay (F := F) c k) := by unfold barPay; infer_instance

instance pay_storable (c : Dev nD) (k : Fin 3) (i : CIx) : BI.Storable (upEmb : UEmb _ 𝕄) (pay m ρ c k i) := by
  rcases i with _ | ⟨_ | _, j⟩
  · exact barPay_storable c k
  · exact someAt_storable sM c j
  · exact holds_storable vM c j _

instance meshRd_payload_storable (g : GSem nD τ sig) (r : ℕ) (k : Fin 3) :
    BI.Storable (upEmb : UEmb _ 𝕄) ((meshRd (F := F) m ρ).payload g r k) := by
  show BI.Storable upEmb ((role g.2).elim iprop(emp) (pay m ρ g.1.1 k))
  rcases role g.2 with _ | i
  · show BI.Storable upEmb iprop(emp)
    infer_instance
  · exact pay_storable m ρ g.1.1 k i

section Sched
variable (c : Dev nD)

theorem duties_cell (i : CIx) : (meshRd (F := F) m ρ).duties (kcell c i) 0 = dutiesOf i := by
  dsimp only [meshRd]; rw [if_pos ⟨rfl, rfl⟩, role_csem]; rfl
theorem duties_later (g : GSem nD τ sig) : ∀ r, 1 ≤ r → (meshRd (F := F) m ρ).duties g r = ∅ :=
  fun r hr => by dsimp only [meshRd]; rw [if_neg fun h => by omega]
theorem amount_cell (i : CIx) (k : Fin 3) : (meshRd (F := F) m ρ).amount (kcell c i) 0 k = unitsOf i := by
  dsimp only [meshRd]; rw [role_csem]; rfl
theorem payload_cell (i : CIx) (k : Fin 3) : (meshRd (F := F) m ρ).payload (kcell c i) 0 k = pay m ρ c k i := by
  dsimp only [meshRd]; rw [role_csem]; rfl

theorem expect_bar : (meshRd (F := F) m ρ).expect (barCell c) 0 = 3 := by
  unfold Schedule.expect Schedule.amountOf
  rw [show barCell c = kcell c none from rfl, duties_cell, Finset.sum_congr rfl fun d _ => amount_cell m ρ c none d]
  rfl
theorem expect_xfer (bk : Bool × Fin 3) : (meshRd (F := F) m ρ).expect (kcell c (some bk)) 0 = N := by
  unfold Schedule.expect Schedule.amountOf
  rw [duties_cell]
  show (∑ d ∈ ({0} : Finset (Fin 3)), _) = N
  rw [Finset.sum_singleton, amount_cell]
  rfl

/-- All of the barrier round: the three landing slots that `c` may write. -/
theorem rest_bar : bigSep ((meshRd (F := F) m ρ).duties (barCell c) 0 \ ∅) (fun d => (meshRd (F := F) m ρ).payload (barCell c) 0 d)
    = iprop(barPay c 0 ∗ barPay c 1 ∗ barPay c 2) := by
  rw [Finset.sdiff_empty, show barCell c = kcell c none from rfl, duties_cell, show dutiesOf none = Finset.univ from rfl,
    bigSep_univ_eq_bigSepL [0, 1, 2] (by decide) (by decide), bigSepL_cons_cons, bigSepL_cons_cons, bigSepL_singleton,
    payload_cell, payload_cell, payload_cell]
  rfl
theorem rest_xfer (bk : Bool × Fin 3) :
    bigSep ((meshRd (F := F) m ρ).duties (kcell c (some bk)) 0 \ ∅) (fun d => (meshRd (F := F) m ρ).payload (kcell c (some bk)) 0 d) = pay m ρ c 0 (some bk) := by
  rw [Finset.sdiff_empty, duties_cell, show dutiesOf (some bk) = {0} from rfl, bigSep_singleton, payload_cell]

end Sched

/-! ## What each device owes; the levels -/

abbrev owR (c : Dev nD) (k : Fin 3) : CellTallies nD τ sig Unit := tallyAt (recvCell (dst c k) k) () N
abbrev owB (c : Dev nD) (k : Fin 3) : CellTallies nD τ sig Unit := tallyAt (barCell (peer c k)) () 1

/-- Before the third copy, the second, the first. -/
def Os₀ (c : Dev nD) : CellTallies nD τ sig Unit := owR c 0
def Os₂ (c : Dev nD) : CellTallies nD τ sig Unit := Os₀ c + owR c 2
def Os₁ (c : Dev nD) : CellTallies nD τ sig Unit := Os₂ c + owR c 1
/-- Before the third signal, the second, the first. -/
def Ob₂ (c : Dev nD) : CellTallies nD τ sig Unit := Os₁ c + owB c 2
def Ob₁ (c : Dev nD) : CellTallies nD τ sig Unit := Ob₂ c + owB c 1
def O₀ (c : Dev nD) : CellTallies nD τ sig Unit := Ob₁ c + owB c 0

def L (g : GSem nD τ sig) : Finset Unit := if g.1.2 = .tc then {()} else ∅
/-- Staging and send cells at 0, barrier cells at 1, receive cells at 2. -/
def lvOf : Option CIx → ℕ
  | some none => 1
  | some (some (true, _)) => 2
  | _ => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by unfold lv; rw [role_bar]; rfl
theorem lv_recv (c : Dev nD) (k : Fin 3) (u : Unit) : lv (recvCell c k) u = 2 := by unfold lv; rw [role_recv]; rfl

theorem owR_pos {c : Dev nD} {k : Fin 3} {g : GSem nD τ sig} {u : Unit} (h : 0 < owR c k g u) : g = recvCell (dst c k) k := by
  rw [tallyAt_apply] at h
  by_contra hn
  rw [if_neg fun h' => hn h'.1] at h
  exact Nat.lt_irrefl 0 h
theorem owB_pos {c : Dev nD} {k : Fin 3} {g : GSem nD τ sig} {u : Unit} (h : 0 < owB c k g u) : g = barCell (peer c k) := by
  rw [tallyAt_apply] at h
  by_contra hn
  rw [if_neg fun h' => hn h'.1] at h
  exact Nat.lt_irrefl 0 h

/-- Until the copies a device owes receive cells; -/
theorem Os₁_pos {c : Dev nD} {g : GSem nD τ sig} {u : Unit} (h : 0 < Os₁ c g u) : ∃ k, g = recvCell (dst c k) k := by
  unfold Os₁ Os₂ Os₀ at h
  simp only [Pi.add_apply, Finsupp.add_apply] at h
  by_cases h0 : 0 < owR c 0 g u
  · exact ⟨0, owR_pos h0⟩
  by_cases h2 : 0 < owR c 2 g u
  · exact ⟨2, owR_pos h2⟩
  · exact ⟨1, owR_pos (u := u) (by omega)⟩
/-- at launch, barrier cells too. -/
theorem O₀_pos {c : Dev nD} {g : GSem nD τ sig} {u : Unit} (h : 0 < O₀ c g u) :
    (∃ k, g = recvCell (dst c k) k) ∨ ∃ k, g = barCell (peer c k) := by
  unfold O₀ Ob₁ Ob₂ at h
  simp only [Pi.add_apply, Finsupp.add_apply] at h
  by_cases h0 : 0 < owB c 0 g u
  · exact .inr ⟨0, owB_pos h0⟩
  by_cases h1 : 0 < owB c 1 g u
  · exact .inr ⟨1, owB_pos h1⟩
  by_cases h2 : 0 < owB c 2 g u
  · exact .inr ⟨2, owB_pos h2⟩
  · exact .inl (Os₁_pos (u := u) (by omega))

omit [FloatOps F] in
theorem mayWait_stage (c : Dev nD) (q : DmaSem sig) (hq : lvOf (role (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; exact le_of_eq hq)
      (fun g u hg => by
        rcases O₀_pos hg with ⟨k, rfl⟩ | ⟨k, rfl⟩
        · rw [lv_recv]; decide
        · rw [lv_bar]; decide)
  · rw [MayWait_zero]; iintro -; iempintro

omit [FloatOps F] in
/-- At its barrier wait a device owes receive cells only, which lie above. -/
theorem mayWait_bar (c : Dev nD) : (levAts L lv : sProp 𝕄) ⊢ MayWait (c : Thread nD τ) (.reg barS) () (Os₁ c) :=
  MayOwe.of_cut (L := L) (lev := lv) 1 (fun p hp => by rw [Finset.mem_singleton.mp hp, L_tc]; exact Finset.mem_singleton_self _)
    (fun g u hg => by obtain ⟨k, rfl⟩ := Os₁_pos hg; exact Finset.mem_singleton_self _)
    (fun p hp => by rw [Finset.mem_singleton.mp hp]; exact le_of_eq (lv_bar c ()))
    (fun g u hg => by obtain ⟨k, rfl⟩ := Os₁_pos hg; rw [lv_recv]; decide)

end Cert.KernelIdeal.Mesh

end
-- ==== Proof.KernelIdeal.Steps.lean ====
/-
# One rule for each kind of effect, at a slot `k`

Each step of the kernel's exchange, stated once for every slot: the signal that lends a landing slot out, the wait
that collects the three landing slots to write, the store into a send slot, the copy, and the two waits on a copy.
-/
module

public import proofs.«01_k».proof.Proof.KernelIdeal.Schedule

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Every cell of the mesh is governed by the schedule, under the names `K`, and has reached round 0. -/
def records (K : Dev nD × CIx → ℕ) : sProp 𝕄 :=
  iprop((bigSep Finset.univ fun ck : Dev nD × CIx => cellInv ER (meshRd m ρ) (K ck) (kcell ck.1 ck.2))
    ∗ bigSep Finset.univ fun ck : Dev nD × CIx => reached ER (kcell ck.1 ck.2) 0)

instance records_persistent (K : Dev nD × CIx → ℕ) : BI.Persistent (records m ρ K) := by unfold records; infer_instance

theorem inv_at (K : Dev nD × CIx → ℕ) (c : Dev nD) (i : CIx) : records m ρ K ⊢ cellInv ER (meshRd m ρ) (K (c, i)) (kcell c i) := by
  unfold records
  iintro ⟨H, -⟩
  have h : (bigSep Finset.univ fun ck : Dev nD × CIx => (cellInv ER (meshRd m ρ) (K ck) (kcell ck.1 ck.2) : sProp 𝕄)) ⊢ cellInv ER (meshRd m ρ) (K (c, i)) (kcell c i) :=
    bigSep_elim (Finset.mem_univ (c, i))
  iapply h; iexact H
theorem reached_at (K : Dev nD × CIx → ℕ) (c : Dev nD) (i : CIx) : records m ρ K ⊢ reached ER (kcell c i) 0 := by
  unfold records
  iintro ⟨-, H⟩
  have h : (bigSep Finset.univ fun ck : Dev nD × CIx => (reached ER (kcell ck.1 ck.2) 0 : sProp 𝕄)) ⊢ reached ER (kcell c i) 0 :=
    bigSep_elim (Finset.mem_univ (c, i))
  iapply h; iexact H

section Steps
variable (K : Dev nD × CIx → ℕ) (c : Dev nD)

/-- Reading a slot of unknown contents. -/
theorem load_some (M : Memref sig .tc .vmem S3x256x512 .bf16) (k : Fin 3) {hl : M.view.LoadsAt (slotR k).toLoadRect}
    {α : Type} {p : ((slotR k).toLoadRect.shape.Idx → Elt F .bf16) → Prog (TpuEff nD τ sig (Elt F) Λ₀ .tc) α} {Q : α → sProp 𝕄} :
    someAt M c k
      ⊢ iprop((∀ v, someAt M c k -∗ wp frame (wpE (defs₀ (F := F)) 𝒱₀ (c : Thread nD τ) none) Set.univ (p v) Q)
          -∗ wp frame (wpE (defs₀ (F := F)) 𝒱₀ (c : Thread nD τ) none) Set.univ (.op (.load M (slotR k).toLoadRect hl) p) Q) := by
  unfold someAt
  iintro ⟨%f, H⟩ Hk
  iapply (wp_load_rect 𝒱₀ (c : Thread nD τ) none Set.univ (m := M) (r := slotR k) (S := (M.access (slotR k)).set) (Finset.Subset.refl _)) $$ H
  iintro H
  iapply Hk
  iexists f; iexact H

/-- Reading a slot that holds `w`. -/
theorem load_holds (M : Memref sig .tc .vmem S3x256x512 .bf16) (k : Fin 3) (w : FVec F S1x256x512 .bf16) {hl : M.view.LoadsAt (slotR k).toLoadRect}
    {α : Type} {p : ((slotR k).toLoadRect.shape.Idx → Elt F .bf16) → Prog (TpuEff nD τ sig (Elt F) Λ₀ .tc) α} {Q : α → sProp 𝕄} :
    holds M c k w
      ⊢ iprop((holds M c k w -∗ wp frame (wpE (defs₀ (F := F)) 𝒱₀ (c : Thread nD τ) none) Set.univ (p w) Q)
          -∗ wp frame (wpE (defs₀ (F := F)) 𝒱₀ (c : Thread nD τ) none) Set.univ (.op (.load M (slotR k).toLoadRect hl) p) Q) := by
  unfold holds
  iintro ⟨%f, %hf, H⟩ Hk
  iapply (wp_load_rect 𝒱₀ (c : Thread nD τ) none Set.univ (m := M) (r := slotR k) (S := (M.access (slotR k)).set) (Finset.Subset.refl _)) $$ H
  iintro H
  rw [hf]
  iapply Hk
  iexists f
  isplitr; · (ipureintro; exact hf)
  iexact H

omit [FloatOps F] in
/-- A slot just written reads back what was written. -/
theorem read_stored (M : Memref sig .tc .vmem S3x256x512 .bf16) (k : Fin 3) (f : (M.access (slotR k)).ty.Contents (Elt F)) (w : FVec F S1x256x512 .bf16) :
    (M.access (slotR k)).read (Elt F) ((M.access (slotR k)).write (Elt F) f w Finset.univ) = w :=
  View.read_write_univ (v := M.access (slotR k)) f w

/-- Writing a slot. -/
theorem store_slot (M : Memref sig .tc .vmem S3x256x512 .bf16) (k : Fin 3) (w : FVec F S1x256x512 .bf16) {hx : (M.access (slotR k)).Stores Finset.univ}
    {hm : (Finset.univ : Finset (slotR k).shape.Idx) = Finset.univ ∨ ∀ a, (slotR k).stride a = 1} {α : Type} {p : PUnit → Prog (TpuEff nD τ sig (Elt F) Λ₀ .tc) α} {Q : α → sProp 𝕄} :
    someAt M c k
      ⊢ iprop((holds M c k w -∗ wp frame (wpE (defs₀ (F := F)) 𝒱₀ (c : Thread nD τ) none) Set.univ (p ⟨⟩) Q)
          -∗ wp frame (wpE (defs₀ (F := F)) 𝒱₀ (c : Thread nD τ) none) Set.univ (.op (.store M (slotR k) w Finset.univ hx hm) p) Q) := by
  unfold someAt holds
  iintro ⟨%f, H⟩ Hk
  iapply (wp_store 𝒱₀ (c : Thread nD τ) none Set.univ (m := M) (r := slotR k) (Mk := Finset.univ) (S := (M.access (slotR k)).set) (Finset.Subset.refl _)) $$ H
  iintro H
  iapply Hk
  iexists ((M.access (slotR k)).write (Elt F) f w Finset.univ)
  isplitr; · (ipureintro; exact read_stored M k f w)
  iexact H

/-- Signal `k`: the landing slot `k` of `c` lent to its sender. -/
theorem signal_step (k : Fin 3) (n : Dev nD) (hn : n = peer c k) (u : ℕ) (hu : u = 1) {O : CellTallies nD τ sig Unit} (W : Waits sig Unit)
    {α : Type} {p : PUnit → Prog (TpuEff nD τ sig (Elt F) Λ₀ .tc) α} {Q : α → sProp 𝕄} :
    iprop(records m ρ K ∗ owes (c : Thread nD τ) (O + owB c k) W ∗ dutyTok ER (barCell (peer c k)) 0 k ∗ someAt vM c k)
      ⊢ iprop((owes (c : Thread nD τ) O W -∗ wp frame (wpE (defs₀ (F := F)) 𝒱₀ (c : Thread nD τ) none) Set.univ (p ⟨⟩) Q)
          -∗ wp frame (wpE (defs₀ (F := F)) 𝒱₀ (c : Thread nD τ) none) Set.univ (.op (.semSignal (Dev.tc n : Thread nD τ) barS u) p) Q) := by
  subst hn; subst hu
  iintro ⟨#HR, HO, Ht, Hs⟩
  iapply (Rounds.wp_signal 𝒱₀ ER (meshRd m ρ) (c : Thread nD τ) none (dst := (peer c k : Thread nD τ)) (κ := K (peer c k, none))
      (d := k) (by rw [show (((peer c k : Dev nD) : Thread nD τ), SemLoc.reg barS) = kcell (peer c k) none from rfl, duties_cell]; exact Finset.mem_univ _)
      (amount_cell m ρ (peer c k) none k) () O rfl)
  isplitr; · iapply (inv_at m ρ K (peer c k) none); iexact HR
  isplitl [HO]; · iexact HO
  isplitl [Ht]; · iexact Ht
  isplitl [Hs]
  · rw [show (((peer c k : Dev nD) : Thread nD τ), SemLoc.reg barS) = kcell (peer c k) none from rfl, payload_cell]
    rw [show pay m ρ (peer c k) k none = barPay (peer c k) k from rfl, barPay, dst_peer]
    isplitl [Hs]; · iexact Hs
    iapply (reached_at m ρ K c (some (true, k))); iexact HR
  · iapply (reached_at m ρ K (peer c k) none); iexact HR

/-- The barrier wait: the three landing slots that `c` is to write. -/
theorem bar_step (u : ℕ) (hu : u = 3) (W : Waits sig Unit) {α : Type} {p : PUnit → Prog (TpuEff nD τ sig (Elt F) Λ₀ .tc) α} {Q : α → sProp 𝕄} :
    iprop(records m ρ K ∗ cred (tallyAt (barCell c) () 3) ∗ owes (c : Thread nD τ) (Os₁ c) W ∗ levAts L lv ∗ atPos ER (barCell c) 0 ∅ 0)
      ⊢ iprop(((∃ W, owes (c : Thread nD τ) (Os₁ c) W) ∗ atPos ER (barCell c) (0 + 1) ∅ 0 ∗ someAt vM (dst c 0) 0 ∗ someAt vM (dst c 1) 1 ∗ someAt vM (dst c 2) 2
            -∗ wp frame (wpE (defs₀ (F := F)) 𝒱₀ (c : Thread nD τ) none) Set.univ (p ⟨⟩) Q)
          -∗ wp frame (wpE (defs₀ (F := F)) 𝒱₀ (c : Thread nD τ) none) Set.univ (.op (.semWait barS u) p) Q) := by
  subst hu
  iintro ⟨#HR, Hc, HO, #Hlev, Hat⟩ Hk
  iapply (Rounds.wp_wait_rest_token 𝒱₀ ER (meshRd m ρ) (c : Thread nD τ) none (κ := K (c, none))
      (wpE_semWait_eq 𝒱₀ (c : Thread nD τ) none Set.univ) (Set.mem_univ _) () (O := Os₁ c) (W := W) (R := 0) (m := 0) (T := ∅)
      (by rw [expect_bar])) $$ [Hc HO Hat]
  · isplitr; · iapply (inv_at m ρ K c none); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  unfold barPay
  icases Hp with ⟨⟨H0, -⟩, ⟨H1, -⟩, H2, -⟩
  iapply Hk
  isplitl [HO]; · iexists _; iexact HO
  isplitl [Hat]; · iexact Hat
  isplitl [H0]; · iexact H0
  isplitl [H1]; · iexact H1
  iexact H2

omit [FloatOps F] in
/-- Every landing slot counts the same bytes. -/
theorem credit_slot (k : Fin 3) : (slot vM k).view.amount (.dma (recvS k)) = N := by
  revert k; decide

/-- Copy `k`: the send slot, holding the message, to the landing slot `k` of `dst c k`. -/
theorem send_step (k : Fin 3) (n : Dev nD) (hn : n = dst c k) {O : CellTallies nD τ sig Unit} (W : Waits sig Unit)
    {hsc : (slot vM k : Memref sig (Dev.tc n : Thread nD τ).2.kind .vmem S256x512 .bf16).view.ref.isScScratch = false}
    {hsrc : (slot sM k).view.WordExact} {hdst : (slot vM k).view.WordExact}
    {hsem : DmaTarget.Typed .vmem (.dma (recvS k)) (.remote (Dev.tc n : Thread nD τ) (slot vM k) (.dma (sendS k)) hsc)}
    {α : Type} {p : PUnit → Prog (TpuEff nD τ sig (Elt F) Λ₀ .tc) α} {Q : α → sProp 𝕄} :
    iprop(records m ρ K ∗ holds sM c k (msg m ρ c k) ∗ someAt vM (dst c k) k ∗ owes (c : Thread nD τ) (O + owR c k) W
        ∗ dutyTok ER (sendCell c k) 0 0 ∗ dutyTok ER (recvCell (dst c k) k) 0 0)
      ⊢ iprop(((cred (tallyAt (sendCell c k) () N) ∗ owes (c : Thread nD τ) O W) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (slot sM k) (.remote (Dev.tc n : Thread nD τ) (slot vM k) (.dma (sendS k)) hsc) (.dma (recvS k)) hsrc hdst hsem) p) Q) := by
  subst hn
  unfold holds someAt
  iintro ⟨#HR, ⟨%fs, %hfs, Hs⟩, ⟨%fd, Hd⟩, HO, Ht₁, Ht₂⟩
  iapply (Rounds.wp_send_pointsTo 𝒱₀ ER (meshRd m ρ) (c : Thread nD τ) none (c' := (dst c k : Thread nD τ)) (κ₁ := K (c, some (false, k))) (κ₂ := K (dst c k, some (true, k)))
    (src := slot sM k) (dst := slot vM k) (q := fullShare) (fs := fs)
    (r₁ := 0) (r₂ := 0) (d₁ := 0) (d₂ := 0) (fd := fd)
    (by rw [show ((c : Thread nD τ), SemLoc.dma (sendS k)) = kcell c (some (false, k)) from rfl, duties_cell]; exact Finset.mem_singleton_self _)
    (by rw [show (((dst c k : Dev nD) : Thread nD τ), SemLoc.dma (recvS k)) = kcell (dst c k) (some (true, k)) from rfl, duties_cell]; exact Finset.mem_singleton_self _)
    () () N (credit_slot k) (amount_cell m ρ c (some (false, k)) 0) (amount_cell m ρ (dst c k) (some (true, k)) 0) O rfl (W := W)
    (by
      rw [show ((c : Thread nD τ), SemLoc.dma (sendS k)) = kcell c (some (false, k)) from rfl, payload_cell]
      show _ ⊢ someAt sM c k
      unfold someAt
      rw [slot_set]
      iintro H; iexists fs; iexact H)
    (by
      rw [show (((dst c k : Dev nD) : Thread nD τ), SemLoc.dma (recvS k)) = kcell (dst c k) (some (true, k)) from rfl, payload_cell]
      show _ ⊢ holds vM (dst c k) k (msg m ρ (peer (dst c k) k) k)
      unfold holds
      rw [slot_set, peer_dst]
      iintro H
      iexists _
      isplitr; · (ipureintro; exact (read_copied sM vM k fd fs).trans hfs)
      iexact H))
  isplitr; · iapply (inv_at m ρ K c (some (false, k))); iexact HR
  isplitr; · iapply (inv_at m ρ K (dst c k) (some (true, k))); iexact HR
  isplitl [Hs]; · rw [slot_set]; iexact Hs
  isplitl [Hd]; · rw [slot_set]; iexact Hd
  isplitl [HO]; · iexact HO
  isplitl [Ht₁]; · iexact Ht₁
  isplitr; · iapply (reached_at m ρ K c (some (false, k))); iexact HR
  isplitl [Ht₂]; · iexact Ht₂
  iapply (reached_at m ρ K (dst c k) (some (true, k))); iexact HR

/-- A wait on one of `c`'s transfer cells, owing nothing: the cell's payload. -/
theorem wait_step (b : Bool) (k : Fin 3) (q : DmaSem sig) (hq : SemLoc.dma q = csem (some (b, k))) (W : Waits sig Unit)
    {src tgt : Memref sig .tc .vmem S256x512 .bf16} {hsrc : src.view.WordExact} {htgt : tgt.view.WordExact} (hN : tgt.view.dmaCredit = N)
    {α : Type} {p : PUnit → Prog (TpuEff nD τ sig (Elt F) Λ₀ .tc) α} {Q : α → sProp 𝕄} :
    iprop(records m ρ K ∗ cred (tallyAt (kcell c (some (b, k))) () N) ∗ owes (c : Thread nD τ) 0 W ∗ atPos ER (kcell c (some (b, k))) 0 ∅ 0)
      ⊢ iprop(((∃ W, owes (c : Thread nD τ) 0 W) ∗ atPos ER (kcell c (some (b, k))) (0 + 1) ∅ 0 ∗ pay m ρ c 0 (some (b, k))
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 q src tgt hsrc htgt) p) Q) := by
  have hcell : kcell c (some (b, k)) = ((c : Thread nD τ), SemLoc.dma q) := by rw [hq]
  have hX := expect_xfer m ρ c (b, k)
  have hP := rest_xfer m ρ c (b, k)
  have hI := inv_at m ρ K c (some (b, k))
  rw [hcell] at hX hP hI ⊢
  iintro ⟨#HR, Hc, HO, Hat⟩ Hk
  iapply (Rounds.wp_wait_rest_token 𝒱₀ ER (meshRd m ρ) (c : Thread nD τ) none (κ := K (c, some (b, k)))
      (wpE_waitDma2_eq 𝒱₀ (c : Thread nD τ) none Set.univ) (Set.mem_univ _) () (O := 0) (W := W) (R := 0) (m := 0) (T := ∅)
      (by rw [Nat.zero_add, hN, hX])) $$ [Hc HO Hat]
  · isplitr; · iapply hI; iexact HR
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iapply (Entails.of_eq hP); iexact Hpay

/-- The seven cells close at the end, each counter at zero. -/
theorem close_step : iprop(records m ρ K ∗ bigSep Finset.univ fun i : CIx => atPos ER (kcell c i) (0 + 1) ∅ 0)
    ⊢ (|={Set.univ}=> bigSep Finset.univ fun i : CIx => semVal (kcell c i) 0 : sProp 𝕄) :=
  ((sep_mono_left (BI.bigSep_of_persistent Finset.univ (records m ρ K))).trans (by
    rw [← bigSep_sep']
    exact bigSep_mono fun i _ => (sep_mono_left (inv_at m ρ K c i)).trans
      (Rounds.cell_close ER (meshRd m ρ) (Set.mem_univ (K (c, i))) (fun h => h) (R := 0 + 1) (duties_later m ρ (kcell c i))))).trans (bigSep_fupd _ _)

end Steps

end Cert.KernelIdeal.Mesh

end
-- ==== Proof.KernelIdeal.Body.lean ====
/-
# The kernel's body on a symbolic device

What a device holds when the kernel starts and what it holds at the end, and the body run once between the two: three
signals, the first chunk, the barrier wait, three copies each followed by the next chunk's work, three receive waits
each followed by the landed message's load, the result's store, and three send waits.
-/
module

public import proofs.«01_k».proof.Proof.KernelIdeal.Steps

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds, before and after -/

/-- The ghost state: the records, the positions at round 0 of the device's seven cells, and for each slot the three
    tokens the device pays with. -/
def ghost (K : Dev nD × CIx → ℕ) (c : Dev nD) : sProp 𝕄 :=
  iprop(records m ρ K ∗ (bigSep Finset.univ fun i : CIx => atPos ER (kcell c i) 0 ∅ 0)
    ∗ bigSep Finset.univ fun k : Fin 3 => iprop(dutyTok ER (barCell (peer c k)) 0 k ∗ dutyTok ER (sendCell c k) 0 0 ∗ dutyTok ER (recvCell (dst c k) k) 0 0))

/-- That, the credit of the barrier's three units and of each receive cell, and the levels. -/
def start (c : Dev nD) : sProp 𝕄 :=
  iprop((∃ K, ghost m ρ K c) ∗ cred (tallyAt (barCell c) () 3) ∗ (bigSep Finset.univ fun k : Fin 3 => cred (tallyAt (recvCell c k) () N)) ∗ levAts L lv)

/-- One of the two scratch buffers, whole. -/
abbrev scr (b : Ref sig .tc) (c : Dev nD) : sProp 𝕄 := iprop(∃ f : Buf (Elt F) ((c : Thread nD τ).loc b), ((c : Thread nD τ).loc b) ↦{fullShare} f)

def Φ₀ (c : Dev nD) : sProp 𝕄 := iprop(start m ρ c ∗ scr cc0_scratch0 c ∗ scr cc0_scratch1 c)
def Φ₁ (c : Dev nD) : sProp 𝕄 := iprop((bigSep Finset.univ fun i : CIx => semVal (kcell c i) 0) ∗ scr (F := F) cc0_scratch0 c ∗ scr cc0_scratch1 c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stg0 m ρ c
    | ⟨1, _⟩ => stg1 m ρ c
    | ⟨2, _⟩ => stg2 m ρ c
    | ⟨3, _⟩ => stg3 m ρ c
    | ⟨4, _⟩ => stg4 m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The two scratch buffers cut into slots -/

omit [FloatOps F] in
theorem bigSep_slots (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_cix (Φ : CIx → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL [none, some (false, 0), some (false, 1), some (false, 2), some (true, 0), some (true, 1), some (true, 2)] (by decide) (by decide) Φ

omit [FloatOps F] in
theorem access_disjoint (M : Memref sig .tc .vmem S3x256x512 .bf16) (hM : M = sM ∨ M = vM) (k k' : Fin 3) (h : k ≠ k') :
    Disjoint (M.access (slotR k)).set (M.access (slotR k')).set := by
  rcases hM with rfl | rfl
  · rw [View.set_slice_whole, View.set_slice_whole]; exact slotR_disjoint k k' h
  · rw [View.set_slice_whole, View.set_slice_whole]; exact slotR_disjoint k k' h

/-- What the three slots leave of a buffer; carried along, never looked at. -/
def leftOver (M : Memref sig .tc .vmem S3x256x512 .bf16) (c : Dev nD) : sProp 𝕄 :=
  iprop(∃ f : Buf (Elt F) (M.view.loc (c : Thread nD τ)), M.view.loc (c : Thread nD τ) ↦[Ring.restOf fun k : Fin 3 => (M.access (slotR k)).set]{fullShare} f)

omit [FloatOps F] in
theorem cut (M : Memref sig .tc .vmem S3x256x512 .bf16) (hM : M = sM ∨ M = vM) (c : Dev nD) :
    (iprop(∃ f : Buf (Elt F) (M.view.loc (c : Thread nD τ)), M.view.loc (c : Thread nD τ) ↦{fullShare} f) : sProp 𝕄)
      ⊢ iprop((someAt M c 0 ∗ someAt M c 1 ∗ someAt M c 2) ∗ leftOver M c) := by
  refine (Ring.fam_split_ex _ (access_disjoint M hM)).trans ?_
  rw [bigSep_slots]
  exact .rfl

omit [FloatOps F] in
theorem joined (M : Memref sig .tc .vmem S3x256x512 .bf16) (hM : M = sM ∨ M = vM) (c : Dev nD) (f₀ : Buf (Elt F) (M.view.loc (c : Thread nD τ))) :
    iprop((someAt M c 0 ∗ someAt M c 1 ∗ someAt M c 2) ∗ leftOver M c)
      ⊢ (iprop(∃ f : Buf (Elt F) (M.view.loc (c : Thread nD τ)), M.view.loc (c : Thread nD τ) ↦{fullShare} f) : sProp 𝕄) := by
  refine BI.Entails.trans ?_ (Ring.fam_join _ (access_disjoint M hM) f₀)
  rw [bigSep_slots]
  exact BI.Entails.refl _

/-! ## The run -/

section Run
variable (K : Dev nD × CIx → ℕ)

omit [FloatOps F] in
theorem hz : (![0, 0] : Fin 2 → Nat) = fun _ => 0 := funext fun a => by fin_cases a <;> rfl
abbrev rOut : Rect S256x512 := Rect.unit (s := S256x512) ![0, 0] S256x512.size inb_S256x512_S256x512_0_0

omit [FloatOps F] in
theorem write_out (f w : (cc0_stg5_0 : Ref sig .tc).ty.Contents (Elt F)) :
    ((M5 : Memref sig .tc .vmem S256x512 .f32).access rOut : View sig .tc _ _ _).write (Elt F) f w Finset.univ = w :=
  Memref.write_access_unit_zero_univ (Elt F) cc0_stg5_0 hz _ f w

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The staged operands. -/
def operands (c : Dev nD) : sProp 𝕄 :=
  iprop((((c : Thread nD τ).loc cc0_stg0_0) ↦{fullShare} stg0 m ρ c) ∗ (((c : Thread nD τ).loc cc0_stg1_0) ↦{fullShare} stg1 m ρ c)
    ∗ (((c : Thread nD τ).loc cc0_stg2_0) ↦{fullShare} stg2 m ρ c) ∗ (((c : Thread nD τ).loc cc0_stg3_0) ↦{fullShare} stg3 m ρ c)
    ∗ (((c : Thread nD τ).loc cc0_stg4_0) ↦{fullShare} stg4 m ρ c))

def bodyPre (c : Dev nD) : sProp 𝕄 :=
  iprop((ghost m ρ K c ∗ cred (tallyAt (barCell c) () 3) ∗ (cred (tallyAt (recvCell c 0) () N) ∗ cred (tallyAt (recvCell c 1) () N) ∗ cred (tallyAt (recvCell c 2) () N)) ∗ levAts L lv)
    ∗ (∃ W, owes (c : Thread nD τ) (O₀ c) W)
    ∗ ((someAt sM c 0 ∗ someAt sM c 1 ∗ someAt sM c 2) ∗ (someAt vM c 0 ∗ someAt vM c 1 ∗ someAt vM c 2))
    ∗ operands m ρ c
    ∗ ∃ f : Buf (Elt F) ((c : Thread nD τ).loc cc0_stg5_0), ((c : Thread nD τ).loc cc0_stg5_0) ↦{fullShare} f)

def bodyEnd (c : Dev nD) : sProp 𝕄 :=
  iprop((bigSep Finset.univ fun i : CIx => semVal (kcell c i) 0)
    ∗ (∃ W, owes (c : Thread nD τ) 0 W)
    ∗ ((someAt sM c 0 ∗ someAt sM c 1 ∗ someAt sM c 2) ∗ (someAt vM c 0 ∗ someAt vM c 1 ∗ someAt vM c 2))
    ∗ operands m ρ c
    ∗ (((c : Thread nD τ).loc cc0_stg5_0) ↦{fullShare} outAt m ρ c))

omit [FloatOps F] in
/-- Every send slot counts the same bytes. -/
theorem credit_slot_s (k : Fin 3) : (slot sM k).view.dmaCredit = N := by
  revert k; decide

theorem pay_recv (c : Dev nD) (k : Fin 3) : pay m ρ c 0 (some (true, k)) = holds vM c k (msg m ρ (peer c k) k) := rfl
theorem pay_send (c : Dev nD) (k : Fin 3) : pay m ρ c 0 (some (false, k)) = someAt sM c k := rfl

set_option maxHeartbeats 4000000 in
set_option maxRecDepth 4000 in
/-- The body run from `bodyPre`, one rule per effect in program order. -/
theorem sound_body (c : Dev nD) (Kt : PUnit → sProp 𝕄) :
    iprop(bodyPre m ρ K c ∗ (bodyEnd m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part14_eq_skeleton]; unfold k0_part14_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton]
  unfold k0_part1_skel k0_part2_skel k0_part3_skel k0_part4_skel k0_part5_skel k0_part6_skel k0_part7_skel k0_part8_skel k0_part9_skel
    k0_part10_skel k0_part11_skel k0_part12_skel k0_part13_skel
  simp only [semSignalWord, semWaitWord, Prog.lift, Prog.bind_op, Prog.bind_ret, Prog.pure_eq_ret, Prog.bind_assoc, wp_deviceId]
  unfold bodyPre ghost
  rw [bigSep_slots, bigSep_cix]
  iintro ⟨⟨⟨⟨#HR, ⟨Hab, Has0, Has1, Has2, Har0, Har1, Har2⟩, ⟨Hb0, Hts0, Htr0⟩, ⟨Hb1, Hts1, Htr1⟩, ⟨Hb2, Hts2, Htr2⟩⟩, Hcb, ⟨Hc0, Hc1, Hc2⟩, #Hlev⟩,
    ⟨%W, HO⟩, ⟨⟨Hs0, Hs1, Hs2⟩, ⟨Hv0, Hv1, Hv2⟩⟩, Hop, ⟨%f5, H5⟩⟩, Hk⟩
  unfold operands
  icases Hop with ⟨H0, H1, H2, H3, H4⟩
  -- the three signals
  unfold O₀
  iapply (signal_step m ρ K c 0 _ (dev1_eq c) _ rfl W) $$ [HO Hb0 Hv0]
  · isplitr; · iexact HR
    isplitl [HO]; · iexact HO
    isplitl [Hb0] <;> iassumption
  iintro HO
  unfold Ob₁
  iapply (signal_step m ρ K c 1 _ (dev2_eq c) _ rfl W) $$ [HO Hb1 Hv1]
  · isplitr; · iexact HR
    isplitl [HO]; · iexact HO
    isplitl [Hb1] <;> iassumption
  iintro HO
  unfold Ob₂
  iapply (signal_step m ρ K c 2 _ (dev3_eq c) _ rfl W) $$ [HO Hb2 Hv2]
  · isplitr; · iexact HR
    isplitl [HO]; · iexact HO
    isplitl [Hb2] <;> iassumption
  iintro HO
  -- the first message's work
  iapply (wp_load 𝒱₀ (c : Thread nD τ) none Set.univ (m := M0) (Finset.subset_univ _)) $$ H0; iintro H0
  iapply (wp_load 𝒱₀ (c : Thread nD τ) none Set.univ (m := M1) (Finset.subset_univ _)) $$ H1; iintro H1
  iapply (wp_load 𝒱₀ (c : Thread nD τ) none Set.univ (m := M2) (Finset.subset_univ _)) $$ H2; iintro H2
  iapply (wp_load 𝒱₀ (c : Thread nD τ) none Set.univ (m := M3) (Finset.subset_univ _)) $$ H3; iintro H3
  iapply (wp_load 𝒱₀ (c : Thread nD τ) none Set.univ (m := M3) (Finset.subset_univ _)) $$ H3; iintro H3
  iapply (wp_load 𝒱₀ (c : Thread nD τ) none Set.univ (m := M3) (Finset.subset_univ _)) $$ H3; iintro H3
  iapply (wp_load 𝒱₀ (c : Thread nD τ) none Set.univ (m := M3) (Finset.subset_univ _)) $$ H3; iintro H3
  iapply (load_some c sM 1) $$ Hs1; iintro %v1 Hs1
  iapply (store_slot c sM 1 (msg m ρ c 1)) $$ Hs1; iintro Hs1
  -- the barrier wait
  iapply (bar_step m ρ K c _ rfl W) $$ [HO Hcb Hab]
  · isplitr; · iexact HR
    isplitl [Hcb]; · iexact Hcb
    isplitl [HO]; · iexact HO
    isplitr; · iexact Hlev
    iexact Hab
  iintro ⟨⟨%W1, HO⟩, Hab, Hd0, Hd1, Hd2⟩
  unfold Os₁
  iapply (send_step m ρ K c 1 _ (dev4_eq c) W1) $$ [Hs1 Hd1 HO Hts1 Htr1]
  · isplitr; · iexact HR
    isplitl [Hs1]; · iexact Hs1
    isplitl [Hd1]; · iexact Hd1
    isplitl [HO]; · iexact HO
    isplitl [Hts1] <;> iassumption
  iintro ⟨Hcs1, HO⟩
  iapply (wp_load 𝒱₀ (c : Thread nD τ) none Set.univ (m := M0) (Finset.subset_univ _)) $$ H0; iintro H0
  iapply (wp_load 𝒱₀ (c : Thread nD τ) none Set.univ (m := M1) (Finset.subset_univ _)) $$ H1; iintro H1
  iapply (wp_load 𝒱₀ (c : Thread nD τ) none Set.univ (m := M2) (Finset.subset_univ _)) $$ H2; iintro H2
  iapply (wp_load 𝒱₀ (c : Thread nD τ) none Set.univ (m := M3) (Finset.subset_univ _)) $$ H3; iintro H3
  iapply (wp_load 𝒱₀ (c : Thread nD τ) none Set.univ (m := M3) (Finset.subset_univ _)) $$ H3; iintro H3
  iapply (wp_load 𝒱₀ (c : Thread nD τ) none Set.univ (m := M3) (Finset.subset_univ _)) $$ H3; iintro H3
  iapply (wp_load 𝒱₀ (c : Thread nD τ) none Set.univ (m := M3) (Finset.subset_univ _)) $$ H3; iintro H3
  iapply (load_some c sM 2) $$ Hs2; iintro %v2 Hs2
  iapply (store_slot c sM 2 (msg m ρ c 2)) $$ Hs2; iintro Hs2
  unfold Os₂
  iapply (send_step m ρ K c 2 _ (dev5_eq c) W1) $$ [Hs2 Hd2 HO Hts2 Htr2]
  · isplitr; · iexact HR
    isplitl [Hs2]; · iexact Hs2
    isplitl [Hd2]; · iexact Hd2
    isplitl [HO]; · iexact HO
    isplitl [Hts2] <;> iassumption
  iintro ⟨Hcs2, HO⟩
  iapply (wp_load 𝒱₀ (c : Thread nD τ) none Set.univ (m := M0) (Finset.subset_univ _)) $$ H0; iintro H0
  iapply (wp_load 𝒱₀ (c : Thread nD τ) none Set.univ (m := M1) (Finset.subset_univ _)) $$ H1; iintro H1
  iapply (wp_load 𝒱₀ (c : Thread nD τ) none Set.univ (m := M2) (Finset.subset_univ _)) $$ H2; iintro H2
  iapply (wp_load 𝒱₀ (c : Thread nD τ) none Set.univ (m := M3) (Finset.subset_univ _)) $$ H3; iintro H3
  iapply (wp_load 𝒱₀ (c : Thread nD τ) none Set.univ (m := M3) (Finset.subset_univ _)) $$ H3; iintro H3
  iapply (wp_load 𝒱₀ (c : Thread nD τ) none Set.univ (m := M3) (Finset.subset_univ _)) $$ H3; iintro H3
  iapply (wp_load 𝒱₀ (c : Thread nD τ) none Set.univ (m := M3) (Finset.subset_univ _)) $$ H3; iintro H3
  iapply (load_some c sM 0) $$ Hs0; iintro %v0 Hs0
  iapply (store_slot c sM 0 (msg m ρ c 0)) $$ Hs0; iintro Hs0
  rw [show Os₀ c = 0 + owR c 0 from (zero_add _).symm]
  iapply (send_step m ρ K c 0 _ (dev6_eq c) W1) $$ [Hs0 Hd0 HO Hts0 Htr0]
  · isplitr; · iexact HR
    isplitl [Hs0]; · iexact Hs0
    isplitl [Hd0]; · iexact Hd0
    isplitl [HO]; · iexact HO
    isplitl [Hts0] <;> iassumption
  iintro ⟨Hcs0, HO⟩
  iapply (wp_load 𝒱₀ (c : Thread nD τ) none Set.univ (m := M0) (Finset.subset_univ _)) $$ H0; iintro H0
  iapply (wp_load 𝒱₀ (c : Thread nD τ) none Set.univ (m := M1) (Finset.subset_univ _)) $$ H1; iintro H1
  iapply (wp_load 𝒱₀ (c : Thread nD τ) none Set.univ (m := M2) (Finset.subset_univ _)) $$ H2; iintro H2
  iapply (wp_load 𝒱₀ (c : Thread nD τ) none Set.univ (m := M3) (Finset.subset_univ _)) $$ H3; iintro H3
  iapply (wp_load 𝒱₀ (c : Thread nD τ) none Set.univ (m := M3) (Finset.subset_univ _)) $$ H3; iintro H3
  iapply (wp_load 𝒱₀ (c : Thread nD τ) none Set.univ (m := M3) (Finset.subset_univ _)) $$ H3; iintro H3
  iapply (wp_load 𝒱₀ (c : Thread nD τ) none Set.univ (m := M3) (Finset.subset_univ _)) $$ H3; iintro H3
  iapply (wp_load 𝒱₀ (c : Thread nD τ) none Set.univ (m := M4) (Finset.subset_univ _)) $$ H4; iintro H4
  -- the landed messages
  iapply (wait_step m ρ K c true 0 _ rfl W1 (credit_slot 0)) $$ [Hc0 HO Har0]
  · isplitr; · iexact HR
    isplitl [Hc0]; · iexact Hc0
    isplitl [HO] <;> iassumption
  iintro ⟨⟨%W2, HO⟩, Har0, Hv0⟩
  ihave Hv0 := (Entails.of_eq (pay_recv m ρ c 0)) $$ Hv0
  iapply (load_holds c vM 0 (msg m ρ (peer c 0) 0)) $$ Hv0; iintro Hv0
  iapply (wait_step m ρ K c true 2 _ rfl W2 (credit_slot 2)) $$ [Hc2 HO Har2]
  · isplitr; · iexact HR
    isplitl [Hc2]; · iexact Hc2
    isplitl [HO] <;> iassumption
  iintro ⟨⟨%W3, HO⟩, Har2, Hv2⟩
  ihave Hv2 := (Entails.of_eq (pay_recv m ρ c 2)) $$ Hv2
  iapply (load_holds c vM 2 (msg m ρ (peer c 2) 2)) $$ Hv2; iintro Hv2
  iapply (wait_step m ρ K c true 1 _ rfl W3 (credit_slot 1)) $$ [Hc1 HO Har1]
  · isplitr; · iexact HR
    isplitl [Hc1]; · iexact Hc1
    isplitl [HO] <;> iassumption
  iintro ⟨⟨%W4, HO⟩, Har1, Hv1⟩
  ihave Hv1 := (Entails.of_eq (pay_recv m ρ c 1)) $$ Hv1
  iapply (load_holds c vM 1 (msg m ρ (peer c 1) 1)) $$ Hv1; iintro Hv1
  -- the result
  iapply (wp_load 𝒱₀ (c : Thread nD τ) none Set.univ (m := M5) (Finset.subset_univ _)) $$ H5; iintro H5
  iapply (wp_store 𝒱₀ (c : Thread nD τ) none Set.univ (m := M5) (r := rOut) (Mk := Finset.univ) (Finset.subset_univ _)) $$ H5; iintro H5
  rw [write_out]
  -- the copies out
  iapply (wait_step m ρ K c false 1 _ rfl W4 (credit_slot_s 1)) $$ [Hcs1 HO Has1]
  · isplitr; · iexact HR
    isplitl [Hcs1]; · iexact Hcs1
    isplitl [HO] <;> iassumption
  iintro ⟨⟨%W5, HO⟩, Has1, Hs1⟩
  ihave Hs1 := (Entails.of_eq (pay_send m ρ c 1)) $$ Hs1
  iapply (wait_step m ρ K c false 2 _ rfl W5 (credit_slot_s 2)) $$ [Hcs2 HO Has2]
  · isplitr; · iexact HR
    isplitl [Hcs2]; · iexact Hcs2
    isplitl [HO] <;> iassumption
  iintro ⟨⟨%W6, HO⟩, Has2, Hs2⟩
  ihave Hs2 := (Entails.of_eq (pay_send m ρ c 2)) $$ Hs2
  iapply (wait_step m ρ K c false 0 _ rfl W6 (credit_slot_s 0)) $$ [Hcs0 HO Has0]
  · isplitr; · iexact HR
    isplitl [Hcs0]; · iexact Hcs0
    isplitl [HO] <;> iassumption
  iintro ⟨⟨%W7, HO⟩, Has0, Hs0⟩
  ihave Hs0 := (Entails.of_eq (pay_send m ρ c 0)) $$ Hs0
  rw [wp_ret]
  imod (close_step m ρ K c) $$ [Hab Has0 Has1 Has2 Har0 Har1 Har2] with Hz
  · isplitr; · iexact HR
    rw [bigSep_cix]
    isplitl [Hab]; · iexact Hab
    isplitl [Has0]; · iexact Has0
    isplitl [Has1]; · iexact Has1
    isplitl [Has2]; · iexact Has2
    isplitl [Har0]; · iexact Har0
    isplitl [Har1] <;> iassumption
  imodintro
  iapply Hk
  unfold bodyEnd operands
  isplitl [Hz]; · iexact Hz
  isplitl [HO]; · iexists _; iexact HO
  isplitl [Hs0 Hs1 Hs2 Hv0 Hv1 Hv2]
  · isplitl [Hs0 Hs1 Hs2]
    · isplitl [Hs0]; · iexact Hs0
      isplitl [Hs1] <;> iassumption
    · isplitl [Hv0]; · iapply (holds_some vM c 0); iexact Hv0
      isplitl [Hv1]; · iapply (holds_some vM c 1); iexact Hv1
      iapply (holds_some vM c 2); iexact Hv2
  isplitl [H0 H1 H2 H3 H4]
  · isplitl [H0]; · iexact H0
    isplitl [H1]; · iexact H1
    isplitl [H2]; · iexact H2
    isplitl [H3] <;> iassumption
  iexact H5
set_option maxRecDepth 4000 in
/-- What the pipeline hands the body at its one point. -/
def pointPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

/-- What the pipeline takes back. -/
def pointPost (c : Dev nD) : sProp 𝕄 :=
  iprop(Φ₁ c ∗ (dats m ρ 0 c).owesAt () t₀.succ
    ∗ stg c cc0_stg0_0 (stg0 m ρ c) ∗ stg c cc0_stg1_0 (stg1 m ρ c) ∗ stg c cc0_stg2_0 (stg2 m ρ c)
    ∗ stg c cc0_stg3_0 (stg3 m ρ c) ∗ stg c cc0_stg4_0 (stg4 m ρ c) ∗ stg c cc0_stg5_0 (outAt m ρ c))

set_option maxRecDepth 4000 in
/-- The body's obligation to the pipeline: the run between the two, the scratch buffers cut before and joined after. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show pointPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3)
    (fun _ => pointPost m ρ c)
  unfold pointPre Φ₀ start
  rw [bigSep_slots]
  iintro ⟨⟨⟨⟨%K, Hg⟩, Hcb, Hcr, Hlev⟩, ⟨%g6, Hs⟩, ⟨%g7, Hv⟩⟩, Ho, ⟨%d0, %g0, %hg0, H0⟩, ⟨%d1, %g1, %hg1, H1⟩, ⟨%d2, %g2, %hg2, H2⟩,
    ⟨%d3, %g3, %hg3, H3⟩, ⟨%d4, %g4, %hg4, H4⟩, ⟨%d5, %g5, %hg5, H5⟩⟩
  have h0 : g0 = stg0 m ρ c := by rw [hg0]; unfold Dat.before; rw [if_pos (fetch0_0 t₀)]; rfl
  have h1 : g1 = stg1 m ρ c := by rw [hg1]; unfold Dat.before; rw [if_pos (fetch0_1 t₀)]; rfl
  have h2 : g2 = stg2 m ρ c := by rw [hg2]; unfold Dat.before; rw [if_pos (fetch0_2 t₀)]; rfl
  have h3 : g3 = stg3 m ρ c := by rw [hg3]; unfold Dat.before; rw [if_pos (fetch0_3 t₀)]; rfl
  have h4 : g4 = stg4 m ρ c := by rw [hg4]; unfold Dat.before; rw [if_pos (fetch0_4 t₀)]; rfl
  subst h0 h1 h2 h3 h4
  unfold Dat.owesAt Pipeline.owesWithin
  icases Ho with ⟨%W, %hW, HO⟩
  rw [show (dats m ρ 0 c).owed t₀.castSucc = O₀ c from rfl]
  ihave Hs' := (cut sM (.inl rfl) c) $$ [Hs]
  · iexists g6; iexact Hs
  icases Hs' with ⟨Hs, Hsr⟩
  ihave Hv' := (cut vM (.inr rfl) c) $$ [Hv]
  · iexists g7; iexact Hv
  icases Hv' with ⟨Hv, Hvr⟩
  iapply (sound_body m ρ K c fun _ => pointPost m ρ c)
  unfold bodyPre
  isplitl [Hg Hcb Hcr Hlev HO Hs Hv H0 H1 H2 H3 H4 H5]
  · isplitl [Hg Hcb Hcr Hlev]
    · isplitl [Hg]; · iexact Hg
      isplitl [Hcb]; · iexact Hcb
      isplitl [Hcr] <;> iassumption
    isplitl [HO]; · iexists W; iexact HO
    isplitl [Hs Hv]
    · isplitl [Hs] <;> iassumption
    isplitl [H0 H1 H2 H3 H4]
    · unfold operands
      isplitl [H0]; · iexact H0
      isplitl [H1]; · iexact H1
      isplitl [H2]; · iexact H2
      isplitl [H3] <;> iassumption
    iexists g5; iexact H5
  unfold bodyEnd operands pointPost Φ₁ Dat.owesAt Pipeline.owesWithin
  rw [show (dats m ρ 0 c).owed t₀.succ = 0 from rfl]
  iintro ⟨Hz, ⟨%W', HO⟩, ⟨Hs, Hv⟩, ⟨H0, H1, H2, H3, H4⟩, H5⟩
  isplitl [Hz Hs Hsr Hv Hvr]
  · isplitl [Hz]; · iexact Hz
    isplitl [Hs Hsr]
    · iapply (joined sM (.inl rfl) c g6)
      isplitl [Hs] <;> iassumption
    · iapply (joined vM (.inr rfl) c g7)
      isplitl [Hv] <;> iassumption
  isplitl [HO]
  · iexists W'
    isplitr; · ipureintro; exact fun _ _ => Or.inl trivial
    iexact HO
  isplitl [H0]; · (iexists _; isplitr; · (ipureintro; rfl)); iexact H0
  isplitl [H1]; · (iexists _; isplitr; · (ipureintro; rfl)); iexact H1
  isplitl [H2]; · (iexists _; isplitr; · (ipureintro; rfl)); iexact H2
  isplitl [H3]; · (iexists _; isplitr; · (ipureintro; rfl)); iexact H3
  isplitl [H4]; · (iexists _; isplitr; · (ipureintro; rfl)); iexact H4
  iexists _; isplitr; · (ipureintro; rfl)
  iexact H5

end Run

end Cert.KernelIdeal.Mesh

end
-- ==== Proof.KernelIdeal.Launch.lean ====
/-
# The launch

The cells' ghost state is funded once for the whole mesh: every device's seven counters become cells under one set of
records, each device's positions stay with it, and the duty tokens go to the devices that pay with them, along the
bijections `along k`. From the run of one body the launch theorem then gives the run of the program.
-/
module

public import proofs.«01_k».proof.Proof.KernelIdeal.Body
public import Idealize.ShloMosaic.Lib.Pipeline.CollectiveSegs

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's six own semaphores. -/
abbrev osem : Fin 6 → SemLoc sig
  | 0 => csem (some (false, 0)) | 1 => csem (some (false, 1)) | 2 => csem (some (false, 2))
  | 3 => csem (some (true, 0)) | 4 => csem (some (true, 1)) | 5 => csem (some (true, 2))

theorem ownSemFacts : Pipeline.OwnSemFacts cfg0.spec osem := by decide

theorem share_eq (c : Dev nD) (w : Fin cfg0.W) : (dats m ρ 0 c).share w = fullShare := by unfold Dat.share; split <;> rfl

/-! ## Funding the cells -/

theorem csem_injective : Function.Injective csem := fun i j h => Option.some.inj ((role_csem i).symm.trans ((congrArg role h).trans (role_csem j)))

theorem kcell_injective : Function.Injective (fun ci : Dev nD × CIx => kcell ci.1 ci.2) := by
  rintro ⟨c, i⟩ ⟨c', i'⟩ h
  have h1 : c = c' := congrArg (fun g : GSem nD τ sig => g.1.1) h
  have h2 : i = i' := csem_injective (congrArg Prod.snd h)
  rw [h1, h2]
def meshCells : Finset (GSem nD τ sig) := Finset.univ.map ⟨_, kcell_injective⟩

/-- The tokens of a device's own cells: which kind of cell, at which slot. -/
abbrev tokOf (x : Dev nD × (Fin 3 × Fin 3)) : GSem nD τ sig × ℕ × Fin 3 := match x.2.2 with
  | 0 => (kcell x.1 none, 0, x.2.1) | 1 => (kcell x.1 (some (false, x.2.1)), 0, 0) | 2 => (kcell x.1 (some (true, x.2.1)), 0, 0)
theorem role_tokOf (x : Dev nD × (Fin 3 × Fin 3)) :
    role (tokOf x).1.2 = some (match x.2.2 with | 0 => none | 1 => some (false, x.2.1) | 2 => some (true, x.2.1)) := by
  rcases x with ⟨c, k, j⟩; fin_cases j
  exacts [role_csem none, role_csem (some (false, k)), role_csem (some (true, k))]
theorem tokOf_injective : Function.Injective tokOf := by
  rintro ⟨c, k, j⟩ ⟨c', k', j'⟩ h
  have h1 : c = c' := by
    have := congrArg (fun x : GSem nD τ sig × ℕ × Fin 3 => x.1.1.1) h
    fin_cases j <;> fin_cases j' <;> exact this
  have hr : role (tokOf (c, k, j)).1.2 = role (tokOf (c', k', j')).1.2 := congrArg (fun x : GSem nD τ sig × ℕ × Fin 3 => role x.1.2) h
  rw [role_tokOf, role_tokOf] at hr
  have hd : (tokOf (c, k, j)).2.2 = (tokOf (c', k', j')).2.2 := by rw [h]
  subst h1
  have : k = k' ∧ j = j' := by
    fin_cases j <;> fin_cases j' <;> simp_all [tokOf]
  rw [this.1, this.2]
def meshToks : Finset (GSem nD τ sig × ℕ × Fin 3) := Finset.univ.map ⟨tokOf, tokOf_injective⟩

def u₀ : UU := (initOf (Pipeline.cells cfgs cellOf_inj) (Pipeline.launchToks cfgs cellOf_inj), initOf meshCells meshToks)

/-- The duty tokens of device `c`'s own cells. -/
def toks (c : Dev nD) : sProp 𝕄 :=
  bigSep Finset.univ fun k : Fin 3 => iprop(dutyTok ER (barCell c) 0 k ∗ dutyTok ER (sendCell c k) 0 0 ∗ dutyTok ER (recvCell c k) 0 0)

/-- What the launch deals device `c`. -/
def G (c : Dev nD) : sProp 𝕄 :=
  iprop((bigSep Finset.univ fun i : CIx => roundState ER (meshRd m ρ) (kcell c i) 0)
    ∗ (bigSep Finset.univ fun i : CIx => iprop(atPos ER (kcell c i) 0 ∅ 0 ∗ reached ER (kcell c i) 0)) ∗ toks c)

/-- What the global step makes of it. -/
def G' (c : Dev nD) : sProp 𝕄 := iprop(∃ K, ghost m ρ K c)

theorem fund_mesh : BI.own (ER (initOf meshCells meshToks)) ⊢ (|==> bigSep Finset.univ (G m ρ) : sProp 𝕄) := by
  have hX (Φ : GSem nD τ sig → sProp 𝕄) : bigSep meshCells Φ = bigSep Finset.univ fun c : Dev nD => bigSep Finset.univ fun i : CIx => Φ (kcell c i) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    refine bigSep_congr fun c _ => ?_
    unfold toks; rw [bigSep_univ_prod]
    exact bigSep_congr fun k _ => by rw [bigSep_slots]; rfl
  iintro HX
  imod (Rounds.fund ER (meshRd m ρ) meshCells meshToks) $$ HX with ⟨Hst, Hr, Hat, Htok⟩
  imodintro
  ihave Hst := (Entails.of_eq (hX fun g => roundState ER (meshRd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- The runtime's barrier semaphore is the one that outlives the launch; -/
theorem unscopedSems0_eq (c : Dev nD) : (unscopedSems0 c : sProp 𝕄) = semVal (kcell c none) 0 := by
  unfold unscopedSems0; rw [bigSep_eq_bigSepL_of_eq [csem none] (by decide) (by decide)]; rfl

omit [FloatOps F] in
/-- with the kernel's own six, a device's seven cells. -/
theorem sems_eq (c : Dev nD) :
    iprop(unscopedSems0 c ∗ Pipeline.ownSems0 (Ix := Unit) (Name := ℕ) (U := UU) (Lvl := ℕ) (Val := Elt F) (τ := τ) osem c)
      = (bigSep Finset.univ fun i : CIx => semVal (kcell c i) 0 : sProp 𝕄) := by
  rw [Pipeline.ownSems0_eq_of_list c osem [0, 1, 2, 3, 4, 5] (by decide) (by decide), unscopedSems0_eq, bigSep_cix]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (meshRd m ρ) κ (kcell c i)))
          ∗ (bigSep Finset.univ fun i => iprop(atPos ER (kcell c i) 0 ∅ 0 ∗ reached ER (kcell c i) 0)) ∗ toks c) := by
  have hcells : iprop((bigSep Finset.univ fun i : CIx => semVal (kcell c i) 0) ∗ bigSep Finset.univ fun i : CIx => roundState ER (meshRd m ρ) (kcell c i) 0)
      ⊢ (|={Set.univ}=> bigSep Finset.univ fun i => iprop(∃ κ : ℕ, cellInv ER (meshRd m ρ) κ (kcell c i)) : sProp 𝕄) := by
    rw [← bigSep_sep']
    exact (bigSep_mono fun i _ => (Rounds.body_intro ER (meshRd m ρ) (kcell c i)).trans inv_alloc).trans (bigSep_fupd _ _)
  unfold G
  iintro ⟨Hos, Hus, Hst, Hat, Htok⟩
  ihave Hv := (Entails.of_eq (sems_eq (F := F) c)) $$ [Hos Hus]
  · isplitl [Hus] <;> iassumption
  imod hcells $$ [Hv Hst] with Hinv
  · isplitl [Hv] <;> iassumption
  imodintro
  isplitl [Hinv]; · iexact Hinv
  isplitl [Hat] <;> iassumption

/-- What stays with device `c` alone: its positions, and the tokens of the duties it pays. -/
def payToks (c : Dev nD) : sProp 𝕄 :=
  bigSep Finset.univ fun k : Fin 3 => iprop(dutyTok ER (barCell (peer c k)) 0 k ∗ dutyTok ER (sendCell c k) 0 0 ∗ dutyTok ER (recvCell (dst c k) k) 0 0)
def linear (c : Dev nD) : sProp 𝕄 := iprop((bigSep Finset.univ fun i : CIx => atPos ER (kcell c i) 0 ∅ 0) ∗ payToks c)

theorem ghost_intro (K : Dev nD × CIx → ℕ) (c : Dev nD) : iprop(records m ρ K ∗ linear c) ⊢ G' m ρ c := by
  unfold linear payToks G' ghost
  iintro ⟨HR, Hat, Ht⟩
  iexists K
  isplitl [HR]; · iexact HR
  isplitl [Hat] <;> iassumption

omit [FloatOps F] in
/-- Devices then slots is slots then devices. -/
theorem by_slot (Φ : Dev nD → Fin 3 → sProp 𝕄) :
    (bigSep Finset.univ fun c => bigSep Finset.univ fun k => Φ c k) = bigSep Finset.univ fun k => bigSep Finset.univ fun c => Φ c k := by
  rw [← bigSep_univ_prod (fun x : Dev nD × Fin 3 => Φ x.1 x.2), bigSep_univ_equiv (Equiv.prodComm (Fin 3) (Dev nD)), bigSep_univ_prod]; rfl

omit [FloatOps F] in
/-- The tokens dealt out: slot by slot, a barrier's and a receive cell's go along the slot's bijection. -/
theorem toks_around : (bigSep Finset.univ fun c : Dev nD => (toks c : sProp 𝕄)) ⊢ bigSep Finset.univ fun c : Dev nD => payToks c := by
  unfold toks payToks
  rw [by_slot, by_slot]
  refine bigSep_mono fun k _ => ?_
  rw [bigSep_sep', bigSep_sep', bigSep_sep', bigSep_sep',
    bigSep_univ_equiv (along k).symm (fun c : Dev nD => (dutyTok ER (barCell c) 0 k : sProp 𝕄)),
    bigSep_univ_equiv (along k) (fun c : Dev nD => (dutyTok ER (recvCell c k) 0 0 : sProp 𝕄))]
  exact BI.Entails.refl _

theorem with_records {S : Finset (Dev nD)} {R : sProp 𝕄} [BI.Persistent R] {Φ Ψ : Dev nD → sProp 𝕄}
    (h : ∀ c ∈ S, iprop(R ∗ Φ c) ⊢ Ψ c) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (meshRd m ρ) κ (kcell c i)))
          ∗ (bigSep Finset.univ fun i => iprop(atPos ER (kcell c i) 0 ∅ 0 ∗ reached ER (kcell c i) 0)) ∗ toks c) : sProp 𝕄)
      ⊢ bigSep Finset.univ (G' m ρ) := by
  rw [bigSep_sep', bigSep_sep', ← bigSep_univ_prod (fun ci : Dev nD × CIx => iprop(∃ κ : ℕ, cellInv ER (meshRd m ρ) κ (kcell ci.1 ci.2))),
    bigSep_congr (s := Finset.univ) (fun (c : Dev nD) _ => bigSep_sep' Finset.univ (fun i : CIx => (atPos ER (kcell c i) 0 ∅ 0 : sProp 𝕄)) (fun i => reached ER (kcell c i) 0)),
    bigSep_sep', ← bigSep_univ_prod (fun ci : Dev nD × CIx => (reached ER (kcell ci.1 ci.2) 0 : sProp 𝕄))]
  iintro ⟨HI, ⟨Hat, #HR⟩, Htok⟩
  ihave HK := (BI.bigSep_exists_pi Finset.univ (fun (ci : Dev nD × CIx) (κ : ℕ) => (cellInv ER (meshRd m ρ) κ (kcell ci.1 ci.2) : sProp 𝕄))) $$ HI
  icases HK with ⟨%K, #HI⟩
  ihave Htk := (toks_around (F := F)) $$ Htok
  iapply (with_records (R := records m ρ K) fun c _ => ghost_intro m ρ K c)
  isplitr
  · unfold records; isplitl; · iexact HI
    iexact HR
  · unfold linear
    rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
theorem cred_recv (k : Fin 3) (c : Dev nD) : (Pipeline.launchCred (fun d => owR d k) c : sProp 𝕄) ⊢ cred (tallyAt (recvCell c k) () N) :=
  Pipeline.launchCred_tallyAt (.dma (recvS k)) (fun d => dst d k) (fun d => peer d k) (fun d => dst_peer d k) (fun d => peer_dst d k) () N c
omit [FloatOps F] in
theorem cred_bar (k : Fin 3) (c : Dev nD) : (Pipeline.launchCred (fun d => owB d k) c : sProp 𝕄) ⊢ cred (tallyAt (barCell c) () 1) :=
  Pipeline.launchCred_tallyAt (.reg barS) (fun d => peer d k) (fun d => dst d k) (fun d => peer_dst d k) (fun d => dst_peer d k) () 1 c

omit [FloatOps F] in
theorem creds (c : Dev nD) :
    (Pipeline.launchCred O₀ c : sProp 𝕄) ⊢ iprop(cred (tallyAt (barCell c) () 3) ∗ bigSep Finset.univ fun k : Fin 3 => cred (tallyAt (recvCell c k) () N)) := by
  rw [show (O₀ : Dev nD → CellTallies nD τ sig Unit) = fun d => ((((owR d 0 + owR d 2) + owR d 1) + owB d 2) + owB d 1) + owB d 0 from rfl,
    Pipeline.launchCred_add, Pipeline.launchCred_add, Pipeline.launchCred_add, Pipeline.launchCred_add, Pipeline.launchCred_add, bigSep_slots]
  iintro ⟨⟨⟨⟨⟨R0, R2⟩, R1⟩, B2⟩, B1⟩, B0⟩
  ihave R0 := (cred_recv (F := F) 0 c) $$ R0
  ihave R1 := (cred_recv (F := F) 1 c) $$ R1
  ihave R2 := (cred_recv (F := F) 2 c) $$ R2
  ihave B0 := (cred_bar (F := F) 0 c) $$ B0
  ihave B1 := (cred_bar (F := F) 1 c) $$ B1
  ihave B2 := (cred_bar (F := F) 2 c) $$ B2
  isplitl [B0 B1 B2]
  · rw [show (tallyAt (barCell c) () 3 : CellTallies nD τ sig Unit) = tallyAt (barCell c) () 1 + (tallyAt (barCell c) () 1 + tallyAt (barCell c) () 1) by
      show tallyAt (barCell c) () (1 + (1 + 1)) = _; rw [tallyAt_add, tallyAt_add]]
    iapply (cred_add _ _).2
    isplitl [B0]; · iexact B0
    iapply (cred_add _ _).2
    isplitl [B1] <;> iassumption
  isplitl [R0]; · iexact R0
  isplitl [R1] <;> iassumption

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HB, HN⟩
  imodintro
  unfold start G'
  isplitl
  · isplitl [HG]; · iexact HG
    isplitl [HB]; · iexact HB
    isplitl [HN] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [← sems_eq]
  iintro ⟨⟨Hu, Ho⟩, Hr⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the program on the four devices ends, each window's
    array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Mesh

end
-- ==== Proof.KernelIdeal.Final.lean ====
/-
# The run's final memory

The run read at the program's own arrays: the result array of device `c` ends at `outAt m ρ c`, the arguments keep
their contents, the counters are zero. The staged operands are the arrays themselves, each window being a whole array.
-/
module

public import proofs.«01_k».proof.Proof.KernelIdeal.Launch

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem final_in (c : Dev nD) (w : Fin cfg0.W) (h : (cfg0.win w).isOut = false) :
    finalA m ρ c w = m ((cfg0.win w).arr.view.loc (c : Thread nD τ)) :=
  (dats (F := F) m ρ 0 c).arrAt_in w h _

theorem stg0_eq (c : Dev nD) : stg0 m ρ c = m ((c : Thread nD τ).loc main_arg0) :=
  Memref.read_access_unit_zero (Elt F) main_arg0 (funext fun a => by fin_cases a <;> decide) (fun a => by fin_cases a <;> decide) _
theorem stg1_eq (c : Dev nD) : stg1 m ρ c = m ((c : Thread nD τ).loc main_arg1) :=
  Memref.read_access_unit_zero (Elt F) main_arg1 (funext fun a => by fin_cases a <;> decide) (fun a => by fin_cases a <;> decide) _
theorem stg2_eq (c : Dev nD) : stg2 m ρ c = m ((c : Thread nD τ).loc main_arg2) :=
  Memref.read_access_unit_zero (Elt F) main_arg2 (funext fun a => by fin_cases a <;> decide) (fun a => by fin_cases a <;> decide) _
theorem stg3_eq (c : Dev nD) : stg3 m ρ c = m ((c : Thread nD τ).loc main_arg3) :=
  Memref.read_access_unit_zero (Elt F) main_arg3 (funext fun a => by fin_cases a <;> decide) (fun a => by fin_cases a <;> decide) _
theorem stg4_eq (c : Dev nD) : stg4 m ρ c = m ((c : Thread nD τ).loc main_arg4) :=
  Memref.read_access_unit_zero (Elt F) main_arg4 (funext fun a => by fin_cases a <;> decide) (fun a => by fin_cases a <;> decide) _

theorem final_out (c : Dev nD) : finalA m ρ c (5 : Fin 6) = outAt m ρ c := by
  have h : (win0_5.blk (0 : Fin 1)).view.read (Elt F) (finalA m ρ c (5 : Fin 6)) = outAt m ρ c := by
    unfold finalA
    rw [show cfg0.N = ((0 : Fin 1) : Fin cfg0.N).val + 1 from rfl, (dats m ρ 0 c).arrAt_succ (5 : Fin 6) (0 : Fin 1),
      show (cfg0.win (5 : Fin 6)).flush (0 : Fin 1) = true from flush0_5 _, if_pos rfl]
    exact View.read_write_univ _ _
  exact (Memref.read_access_unit_zero (Elt F) main_v1 (funext fun a => by fin_cases a <;> decide) (fun a => by fin_cases a <;> decide) _).symm.trans h

/-- The run: results, arguments, counters. -/
theorem run_final : θ_run defs (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c (5 : Fin 6)).trans (final_out m ρ c),
    (h.1 c (0 : Fin 6)).trans (final_in m ρ c _ rfl), (h.1 c (1 : Fin 6)).trans (final_in m ρ c _ rfl),
    (h.1 c (2 : Fin 6)).trans (final_in m ρ c _ rfl), (h.1 c (3 : Fin 6)).trans (final_in m ρ c _ rfl),
    (h.1 c (4 : Fin 6)).trans (final_in m ρ c _ rfl)⟩, h.2⟩) (run_main m ρ)

end Cert.KernelIdeal.Mesh

end
-- ==== Proof.Frames.lean ====
/-
# The frames

Each program ends, leaves its arguments as they were and its counters at zero: the two kernels' by the run of the four
devices with the result dropped, the reference's by the run of its operations (it declares no semaphore).
-/
module

public import proofs.«01_k».proof.Defs
public import proofs.«01_k».proof.Proof.Kernel.Final
public import proofs.«01_k».proof.Proof.KernelIdeal.Final
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The kernel's frame, at its own float words. -/
theorem frame_kernel : Cert.quiescent_Kernel := fun m ρ _ =>
  (θ_run _ _ _).mono (fun _ h => ⟨fun c => (h.1 c).2, h.2⟩) (Cert.Kernel.Mesh.run_final (F := Bits) m ρ)

/-- The kernel's frame over the extended reals. -/
theorem frame_ideal : Cert.quiescent_KernelIdeal := fun m ρ _ =>
  (θ_run _ _ _).mono (fun _ h => ⟨fun c => (h.1 c).2, h.2⟩) (Cert.KernelIdeal.Mesh.run_final (F := Ideal) m ρ)

/-- The reference's frame. -/
theorem frame_reference : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

end Cert.Proof

end
-- ==== Proof.KernelIdeal.Chunk.lean ====
/-
# The four prints of one chunk's arithmetic

The body computes a chunk's partial sum four times, for the three peers' rows and for its own, and each time it is
printed in other pieces. Here the partial sum is written once, `partialSum`, and each of the three messages and the own
block is it: a message after rounding, the own block after the shared expert's product.
-/
module

public import proofs.«01_k».proof.Proof.KernelIdeal.Work

@[expose] public section

noncomputable section

namespace Cert.KernelIdeal.Mesh

open Cert.KernelIdeal Cert.KernelIdeal.Gen

open Idealize.ShloMosaic
open Idealize.ShloMosaic.TcCoe

variable {F : FTy → Type} [FloatOps F]

section
variable (c : Dev nD) (x : Vec F S256x256 .bf16) (rw : Vec F S256x16 .bf16) (e : Vec F S256x1 .i32)

/-- The router's probabilities of a chunk of rows. -/
def probs : FVec F S256x16 .f32 := k0_pay3 (k0_pay2 x rw)

/-- The word of the device's expert number `j`. -/
abbrev expertWord (j : BitVec 32) : BitVec 32 := Scalar.addi (Scalar.muli (devWord c) 4#32) j

/-- The column of a device expert's weights: a row's probability of expert `g` when the row is sent to `g`, else 0. -/
def weight (p : FVec F S256x16 .f32) (g : BitVec 32) : FVec F S256x1 .f32 :=
  select (cmpi .eq (shapeCast S256x1 e shapeCasts_S256x1_S256x1) (broadcast S256x1 g))
    (shapeCast S256x1
      (multiReduction .add [1] S256
        (select (cmpi .eq cols (broadcast S256x16 g)) p (broadcast S256x16 (Scalar.ofBits .f32 0x00000000#32)))
        0x00000000#32 reduces_S256x16_S256 (.inl rfl) rfl)
      shapeCasts_S256_S256x1)
    (broadcast S256x1 (Scalar.ofBits .f32 0x00000000#32))

/-- The rows times one weight matrix. -/
def product (w : FVec F S256x512 .bf16) : FVec F S256x512 .f32 :=
  matmul dot_S256x256_S256x512_S256x512_1_0_0_1_n_n none (shapeCast S256x256 x shapeCasts_S256x256_S256x256) w
    (constant S256x512 .f32 0x00000000#32)

/-- One expert's share of a chunk. -/
def share (p : FVec F S256x16 .f32) (g : BitVec 32) (w : Vec F S1x256x512 .bf16) : FVec F S256x512 .f32 :=
  mulf (broadcastTo S256x512 (weight e p g) broadcasts_S256x1_S256x512)
    (product x (shapeCast S256x512 w shapeCasts_S1x256x512_S256x512))

/-- The partial sum of a chunk over the device's four experts, in the kernel's order. -/
def partialSum (w : Fin 4 → Vec F S1x256x512 .bf16) : FVec F S256x512 .f32 :=
  addf (addf (addf (addf (broadcast S256x512 (Scalar.ofBits .f32 0x00000000#32))
    (share x e (probs x rw) (expertWord c 0#32) (w 0)))
    (share x e (probs x rw) (expertWord c 1#32) (w 1)))
    (share x e (probs x rw) (expertWord c 2#32) (w 2)))
    (share x e (probs x rw) (expertWord c 3#32) (w 3))

/-- A message: the partial sum rounded to the wire's format. -/
def sent (w : Fin 4 → Vec F S1x256x512 .bf16) : FVec F S1x256x512 .bf16 :=
  shapeCast S1x256x512 (truncf .bf16 (partialSum c x rw e w) bitsLt_bf16_f32) shapeCasts_S256x512_S1x256x512

/-- Slot 1's message is a rounded partial sum; -/
theorem sent1_eq (w : Fin 4 → Vec F S1x256x512 .bf16) : sent1 c x rw e w = sent c x rw e w := rfl
/-- so is slot 2's, -/
theorem sent2_eq (w : Fin 4 → Vec F S1x256x512 .bf16) : sent2 c x rw e w = sent c x rw e w := rfl
/-- and slot 0's. -/
theorem sent0_eq (w : Fin 4 → Vec F S1x256x512 .bf16) : sent0 c x rw e w = sent c x rw e w := rfl

/-- The own block is the shared expert's product plus a partial sum. -/
theorem own_eq (w : Fin 4 → Vec F S1x256x512 .bf16) (sw : Vec F S256x512 .bf16) :
    own c x rw e w sw
      = addf (product x (shapeCast S256x512 sw shapeCasts_S256x512_S256x512)) (partialSum c x rw e w) := rfl

end

end Cert.KernelIdeal.Mesh

end
-- ==== Proof.Mixture.lean ====
/-
# The layer's mathematics, one token at a time

Scores, softmax and the sum over experts in which only the token's own expert counts. The kernel computes that sum,
four experts a device; the reference looks the token's expert up. `lookup_eq_mix` is the agreement of the two, for
every expert number: one outside 0..15 gives 0 on both sides.
-/
module

public import Idealize.ShloMosaic.Lib.Pointwise

@[expose] public section

noncomputable section

namespace Cert.Proof

open Idealize.ShloMosaic

/-- A token's router scores. -/
def scores (x : Fin 256 → EReal) (R : Fin 256 → Fin 16 → EReal) (g : Fin 16) : EReal := ∑ k, x k * R k g

/-- The largest score. -/
def top (s : Fin 16 → EReal) : EReal := Finset.univ.fold max (Ideal.ofBits .f32 0xFF800000#32) s

/-- The softmax of the scores, shifted by the largest. -/
def softmax (s : Fin 16 → EReal) (g : Fin 16) : EReal :=
  Ideal.div (Ideal.exp (s g - top s)) (∑ h, Ideal.exp (s h - top s))

/-- The sum over the experts in which only the token's own counts. -/
def mix (E : BitVec 32) (v : Fin 16 → EReal) : EReal := ∑ g : Fin 16, if E = BitVec.ofNat 32 g.val then v g else 0

/-- An expert number clamped to 0..15. -/
def clamped (E : BitVec 32) : Fin 16 := ⟨min E.toInt.toNat 15, by omega⟩

/-- Two expert numbers with one word are one number. -/
theorem ofNat_inj {g h : Fin 16} (e : BitVec.ofNat 32 g.val = BitVec.ofNat 32 h.val) : g = h := by
  revert g h; decide

/-- An expert number in range: every test the reference makes is passed and its lookups land on that expert. -/
theorem inRange (g : Fin 16) :
    IntOp.andi (IntOp.cmpi .sge (BitVec.ofNat 32 g.val) 0#32) (IntOp.cmpi .slt (BitVec.ofNat 32 g.val) 16#32) = 1#1
      ∧ IntOp.cmpi .slt (BitVec.ofNat 32 g.val) 0#32 = 0#1 ∧ clamped (BitVec.ofNat 32 g.val) = g := by
  revert g; decide

/-- An expert number that passes the range test is in range. -/
theorem exists_of_test (E : BitVec 32)
    (h : IntOp.andi (IntOp.cmpi .sge E 0#32) (IntOp.cmpi .slt E 16#32) = 1#1) : ∃ g : Fin 16, E = BitVec.ofNat 32 g.val := by
  have hs : (0#32 : BitVec 32).sle E = true ∧ E.slt 16#32 = true := by
    revert h
    show BitVec.ofBool ((0#32 : BitVec 32).sle E) &&& BitVec.ofBool (E.slt 16#32) = 1#1 → _
    cases (0#32 : BitVec 32).sle E <;> cases E.slt 16#32 <;> decide
  obtain ⟨h0, h1⟩ := hs
  have a : 0 ≤ E.toInt := by simpa [BitVec.sle] using h0
  have b : E.toInt < 16 := by simpa [BitVec.slt] using h1
  have hn : E.toNat < 16 := by
    have := E.isLt
    rw [BitVec.toInt_eq_toNat_cond] at a b
    split at b <;> omega
  refine ⟨⟨E.toNat, hn⟩, BitVec.eq_of_toNat_eq ?_⟩
  rw [BitVec.toNat_ofNat, Nat.mod_eq_of_lt E.isLt]

/-- A token sent to expert `g` gets the term of `g` alone. -/
theorem mix_ofNat (g : Fin 16) (v : Fin 16 → EReal) : mix (BitVec.ofNat 32 g.val) v = v g := by
  unfold mix
  rw [Finset.sum_eq_single g, if_pos rfl]
  · intro h _ hne; exact if_neg fun e => hne (ofNat_inj e).symm
  · intro h; exact absurd (Finset.mem_univ _) h

/-- The reference's guarded lookup is the sum over the experts in which only the token's own counts. -/
theorem lookup_eq_mix (E : BitVec 32) (p y : Fin 16 → EReal) :
    Scalar.select (IntOp.andi (IntOp.cmpi .sge E 0#32) (IntOp.cmpi .slt E 16#32))
      (p (clamped (Scalar.select (IntOp.cmpi .slt E 0#32) (IntOp.addi E 16#32) E)) * y (clamped E)) 0
      = mix E fun g => p g * y g := by
  by_cases h : ∃ g : Fin 16, E = BitVec.ofNat 32 g.val
  · obtain ⟨g, rfl⟩ := h
    obtain ⟨h1, h2, h3⟩ := inRange g
    rw [h1, h2, mix_ofNat]
    show p (clamped (BitVec.ofNat 32 g.val)) * y (clamped (BitVec.ofNat 32 g.val)) = _
    rw [h3]
  · have h0 : mix E (fun g => p g * y g) = 0 :=
      Finset.sum_eq_zero fun g _ => if_neg fun e => h ⟨g, e⟩
    rw [h0]
    exact if_neg fun e => h (exists_of_test E e)

/-- Device `d`'s four experts. -/
def expert (d j : Fin 4) : Fin 16 := ⟨4 * d.val + j.val, by omega⟩

/-- The sum over the experts is the sum over the devices of the sums over their own. -/
theorem sum_experts (v : Fin 16 → EReal) : ∑ g, v g = ∑ d : Fin 4, ∑ j : Fin 4, v (expert d j) := by
  rw [← Fintype.sum_prod_type' fun d j => v (expert d j)]
  refine (Fintype.sum_equiv (finProdFinEquiv (m := 4) (n := 4)) _ v fun a => congrArg v (Fin.ext ?_)).symm
  show 4 * a.1.val + a.2.val = a.2.val + 4 * a.1.val
  omega

/-- Four terms summed from any one on, in the order in which a device adds its peers' messages. -/
theorem sum_from (D : Fin 4 → EReal) (c : Fin 4) : ((D c + D (c + 1)) + D (c + 3)) + D (c + 2) = ∑ d, D d := by
  rw [Fin.sum_univ_four]
  fin_cases c
  · show ((D 0 + D 1) + D 3) + D 2 = _; ac_rfl
  · show ((D 1 + D 2) + D 0) + D 3 = _; ac_rfl
  · show ((D 2 + D 3) + D 1) + D 0 = _; ac_rfl
  · show ((D 3 + D 0) + D 2) + D 1 = _; ac_rfl

end Cert.Proof

end
-- ==== Proof.KernelIdeal.Entries.lean ====
/-
# The kernel's partial sums, entry by entry

Over the extended reals: a device's share of a token is the sum over its four experts in which only the token's own
expert counts, each a probability times a product.
-/
module

public import proofs.«01_k».proof.Proof.KernelIdeal.Chunk
public import proofs.«01_k».proof.Proof.Mixture
public import Idealize.ShloMosaic.Lib.Pointwise

@[expose] public section

noncomputable section

namespace Cert.KernelIdeal.Mesh

open Cert.KernelIdeal Cert.KernelIdeal.Gen
open Cert.Proof

open Idealize.ShloMosaic
open Idealize.ShloMosaic.TcCoe

variable (c : Dev nD) (x : Vec Ideal S256x256 .bf16) (rw : Vec Ideal S256x16 .bf16) (e : Vec Ideal S256x1 .i32)

/-- A probability is the softmax of the row's scores. -/
theorem probs_apply (r : Fin 256) (g : Fin 16) :
    probs x rw (ix2 r g) = softmax (scores (fun k => x (ix2 r k)) fun k h => rw (ix2 k h)) g := by
  pointwise [probs, k0_pay3, k0_pay2, k0_pay1]
  rfl

/-- A product with a weight matrix at a row and a column. -/
theorem product_apply (w : FVec Ideal S256x512 .bf16) (r : Fin 256) (f : Fin 512) :
    product x w (ix2 r f) = ∑ k : Fin 256, x (ix2 r k) * w (ix2 k f) := by
  pointwise [product]

/-- A comparison of two words picks by their equality. -/
theorem select_eq (a b : BitVec 32) (u v : EReal) :
    Scalar.select (IntOp.cmpi .eq a b) u v = if a = b then u else v := by
  by_cases h : a = b
  · subst h
    rw [if_pos rfl]
    exact if_pos (congrArg BitVec.ofBool (beq_self_eq_true a))
  · rw [if_neg h]
    refine if_neg fun q => ?_
    have : BitVec.ofBool false = 1#1 := (congrArg BitVec.ofBool (beq_eq_false_iff_ne.mpr h)).symm.trans q
    exact absurd this (by decide)

/-- The weight of expert `g` for a row: its probability if the row is sent to `g`, else 0. -/
theorem weight_apply (p : FVec Ideal S256x16 .f32) (g : Fin 16) (r : Fin 256) :
    weight e p (BitVec.ofNat 32 g.val) (ix2 r 0) = if e (ix2 r 0) = BitVec.ofNat 32 g.val then p (ix2 r g) else 0 := by
  pointwise [weight, cols]
  rw [select_eq]
  refine congrArg (fun q : EReal => if e (ix2 r 0) = BitVec.ofNat 32 g.val then q else 0) ?_
  rw [Finset.sum_eq_single g, select_eq, if_pos rfl]
  · intro h _ hne
    rw [select_eq, if_neg fun q => hne (ofNat_inj q)]
  · intro h; exact absurd (Finset.mem_univ _) h

/-- One expert's share at a row and a column. -/
theorem share_apply (p : FVec Ideal S256x16 .f32) (g : Fin 16) (w : Vec Ideal S1x256x512 .bf16) (r : Fin 256) (f : Fin 512) :
    share x e p (BitVec.ofNat 32 g.val) w (ix2 r f)
      = if e (ix2 r 0) = BitVec.ofNat 32 g.val then p (ix2 r g) * ∑ k : Fin 256, x (ix2 r k) * w (ix3 0 k f) else 0 := by
  pointwise [share]
  rw [weight_apply, product_apply, ite_mul, zero_mul]
  pointwise

/-- The word the kernel computes for device `c`'s expert `j` is that expert's number. -/
theorem expertWord_eq (j : Fin 4) : expertWord c (BitVec.ofNat 32 j.val) = BitVec.ofNat 32 (expert c j).val := by
  revert c j; decide

/-- A device's partial sum at a row and a column. -/
theorem partialSum_apply (w : Fin 4 → Vec Ideal S1x256x512 .bf16) (r : Fin 256) (f : Fin 512) :
    partialSum c x rw e w (ix2 r f)
      = ∑ j : Fin 4, if e (ix2 r 0) = BitVec.ofNat 32 (expert c j).val then
          softmax (scores (fun k => x (ix2 r k)) fun k h => rw (ix2 k h)) (expert c j)
            * ∑ k : Fin 256, x (ix2 r k) * w j (ix3 0 k f) else 0 := by
  have h := fun j : Fin 4 => share_apply x e (probs x rw) (expert c j) (w j) r f
  simp only [← expertWord_eq c, probs_apply] at h
  pointwise [partialSum]
  rw [Fin.sum_univ_four]
  simp only [← expertWord_eq c]
  exact congrArg₂ (· + ·) (congrArg₂ (· + ·) (congrArg₂ (· + ·) (h 0) (h 1)) (h 2)) (h 3)

/-- A message holds the partial sum: over the extended reals the rounding is the identity. -/
theorem sent_apply (w : Fin 4 → Vec Ideal S1x256x512 .bf16) (r : Fin 256) (f : Fin 512) :
    sent c x rw e w (ix3 0 r f) = partialSum c x rw e w (ix2 r f) := by
  pointwise [sent]

/-- The result is the own block plus the three messages. -/
theorem total_apply (o : FVec Ideal S256x512 .f32) (q : Fin 3 → FVec Ideal S1x256x512 .bf16) (r : Fin 256) (f : Fin 512) :
    total o q (ix2 r f) = o (ix2 r f) + q 0 (ix3 0 r f) + q 2 (ix3 0 r f) + q 1 (ix3 0 r f) := by
  pointwise [total, k0_pay33, k0_pay34, k0_pay35]

/-- The own block at a row and a column. -/
theorem own_apply (w : Fin 4 → Vec Ideal S1x256x512 .bf16) (sw : Vec Ideal S256x512 .bf16) (r : Fin 256) (f : Fin 512) :
    own c x rw e w sw (ix2 r f) = (∑ k : Fin 256, x (ix2 r k) * sw (ix2 k f)) + partialSum c x rw e w (ix2 r f) := by
  rw [own_eq]
  pointwise
  rw [product_apply]

end Cert.KernelIdeal.Mesh

end
-- ==== Proof.Gathers.lean ====
/-
# The reference's two lookups

A token's probability of its expert and the weights of that expert, each a gather whose start index is the expert
number clamped to 0..15.
-/
module

public import proofs.«01_k».proof.Proof.Gen.ReferenceIdeal.Run
public import proofs.«01_k».proof.Proof.Mixture
public import Idealize.ShloMosaic.Lib.Pointwise

@[expose] public section

noncomputable section

namespace Cert.ReferenceIdeal.Lookup

open Cert.ReferenceIdeal Cert.ReferenceIdeal.Gen
open Idealize.ShloMosaic Cert.Proof

/-- An index's coordinates at two names of one axis. -/
theorem coord {t : Shape} (j : t.Idx) {a b : Fin t.rank} (h : a = b) : (j a).val = (j b).val := by rw [h]

section prob
/-- The lookup of a probability: one entry of the token's own row. -/
abbrev G : GatherDims S1024x16 S1024x1x1 S1024x1 := gather_S1024x16_S1024x1x1_S1024x1_n_1_0_0_1_2_11

/-- The start index of a result entry is read at that entry's own coordinates. -/
theorem G_coord (j : S1024x1.Idx) (b : Fin 2) (hb) : (G.siCoord j (b.castSucc) hb).val = (j b).val := by
  unfold GatherDims.siCoord
  refine coord j ?_
  revert b; decide

/-- The row looked up is the result's own row. -/
theorem G_row (j : S1024x1.Idx) : G.batchCoord j 0 = (j 0).val := by
  unfold GatherDims.batchCoord
  rw [dif_pos (by decide)]
  exact G_coord j 0 _

/-- Token `t`'s start index stands in row `t` of the column of start indices. -/
theorem G_si (t : Fin 1024) (k) : G.siIdx (ix2 t 0) k = ix3 t 0 0 := by
  funext b
  unfold GatherDims.siIdx
  refine Fin.ext ?_
  match b with
  | ⟨0, h⟩ => rw [dif_neg (show ¬ (⟨0, h⟩ : Fin S1024x1x1.rank).val = G.indexVectorDim from Nat.zero_ne_add_one 1)]; exact G_coord (ix2 t 0) 0 _
  | ⟨1, _⟩ => exact Nat.lt_one_iff.mp (Fin.isLt _)
  | ⟨2, _⟩ => exact Nat.lt_one_iff.mp (Fin.isLt _)

/-- The column looked up is the clamped expert number. -/
theorem G_start (i : IVec S1024x1x1 32) (t : Fin 1024) : G.start (ix2 t 0) i 1 = (clamped (i (ix3 t 0 0))).val := by
  unfold GatherDims.start
  rw [dif_pos (by decide), G_si]
  rfl

/-- The lookup of a probability, entry by entry. -/
theorem gather_prob (x : FVec Ideal S1024x16 .f32) (i : IVec S1024x1x1 32) (t : Fin 1024) :
    Host.gather gather_S1024x16_S1024x1x1_S1024x1_n_1_0_0_1_2_11 x i (ix2 t 0) = x (ix2 t (clamped (i (ix3 t 0 0)))) := by
  refine congrArg x (funext fun a => Fin.ext ?_)
  match a with
  | ⟨0, _⟩ =>
    show G.start (ix2 t 0) i 0 + G.batchCoord (ix2 t 0) 0 + G.offCoord (ix2 t 0) 0 = t.val
    rw [G.start_batching _ _ _ (by decide), G_row, G.offCoord_eq_zero _ _ (by decide)]
    show 0 + t.val + 0 = t.val
    omega
  | ⟨1, _⟩ =>
    show G.start (ix2 t 0) i 1 + G.batchCoord (ix2 t 0) 1 + G.offCoord (ix2 t 0) 1 = _
    rw [G_start, G.batchCoord_eq_zero _ _ (by decide), G.offCoord_eq_zero _ _ (by decide)]
    rfl
end prob

section weights
/-- The lookup of an expert's weights: one whole matrix. -/
abbrev W : GatherDims S16x256x512 S1024x1 S1024x256x512 := gather_S16x256x512_S1024x1_S1024x256x512_12_0_n_n_0_1_1256512

/-- Token `t`'s start index stands in row `t` of the column of start indices. -/
theorem W_si (t : Fin 1024) (k : Fin 256) (f : Fin 512) (n) : W.siIdx (ix3 t k f) n = ix2 t 0 := by
  funext b
  unfold GatherDims.siIdx
  refine Fin.ext ?_
  match b with
  | ⟨0, h⟩ =>
    rw [dif_neg (show ¬ (⟨0, h⟩ : Fin S1024x1.rank).val = W.indexVectorDim from Nat.zero_ne_add_one 0)]
    unfold GatherDims.siCoord
    exact coord (ix3 t k f) (b := 0) (show W.batchDims[W.siKept.idxOf 0] = 0 by decide)
  | ⟨1, _⟩ => exact Nat.lt_one_iff.mp (Fin.isLt _)

/-- The matrix looked up is that of the clamped expert number. -/
theorem W_start (i : IVec S1024x1 32) (t : Fin 1024) (k : Fin 256) (f : Fin 512) :
    W.start (ix3 t k f) i 0 = (clamped (i (ix2 t 0))).val := by
  unfold GatherDims.start
  rw [dif_pos (by decide), W_si]
  rfl

/-- Inside the matrix the result's own coordinates are kept. -/
theorem W_off (j : S1024x256x512.Idx) (a : Fin 2) : W.offCoord j a.succ = (j a.succ).val := by
  unfold GatherDims.offCoord
  rw [dif_pos (by revert a; decide)]
  refine coord j ?_
  revert a; decide

/-- The slice starts at 0 on the matrix's own axes. -/
theorem W_other (j : S1024x256x512.Idx) (i : IVec S1024x1 32) (a : Fin 2) : W.start j i a.succ = 0 := by
  unfold GatherDims.start
  rw [dif_neg (by revert a; decide)]

/-- The lookup of an expert's weights, entry by entry. -/
theorem gather_weights (x : FVec Ideal S16x256x512 .f32) (i : IVec S1024x1 32) (t : Fin 1024) (k : Fin 256) (f : Fin 512) :
    Host.gather gather_S16x256x512_S1024x1_S1024x256x512_12_0_n_n_0_1_1256512 x i (ix3 t k f)
      = x (ix3 (clamped (i (ix2 t 0))) k f) := by
  refine congrArg x (funext fun a => Fin.ext ?_)
  show W.start (ix3 t k f) i a + W.batchCoord (ix3 t k f) a + W.offCoord (ix3 t k f) a = _
  rw [W.batchCoord_eq_zero _ _ (List.not_mem_nil)]
  match a with
  | ⟨0, _⟩ =>
    show W.start (ix3 t k f) i 0 + 0 + W.offCoord (ix3 t k f) 0 = _
    rw [W_start, W.offCoord_eq_zero _ _ (by decide)]
    rfl
  | ⟨1, _⟩ =>
    show W.start (ix3 t k f) i (Fin.succ 0) + 0 + W.offCoord (ix3 t k f) (Fin.succ 0) = k.val
    rw [W_other, W_off]
    exact Nat.zero_add k.val
  | ⟨2, _⟩ =>
    show W.start (ix3 t k f) i (Fin.succ 1) + 0 + W.offCoord (ix3 t k f) (Fin.succ 1) = f.val
    rw [W_other, W_off]
    exact Nat.zero_add f.val
end weights

end Cert.ReferenceIdeal.Lookup

end
-- ==== Proof.Reference.lean ====
/-
# The reference's result, entry by entry

The composed term of the reference's run, cut into named stages, and its entry at a token and a column: the shared
expert's product plus the token's own expert's product times its probability.
-/
module

public import proofs.«01_k».proof.Proof.Gathers

@[expose] public section

noncomputable section

namespace Cert.ReferenceIdeal.Lookup

open Cert.ReferenceIdeal Cert.ReferenceIdeal.Gen
open Idealize.ShloMosaic Cert.Proof

variable (x : FVec Ideal S1024x256 .bf16) (rw : FVec Ideal S256x16 .bf16) (e : IVec S1024x1 32)
variable (w : FVec Ideal S16x256x512 .bf16) (sw : FVec Ideal S256x512 .bf16)

/-- The tokens' router scores. -/
def scoresT : FVec Ideal S1024x16 .f32 :=
  Host.dotGeneral dot_S1024x256_S256x16_S1024x16_1_0_0_1_n_n none (extf .f32 x bitsLt_bf16_f32) (extf .f32 rw bitsLt_bf16_f32)

/-- The exponentials of the scores less their row's largest. -/
def expsT : FVec Ideal S1024x16 .f32 :=
  Host.exp (subf (scoresT x rw) (broadcastInDim S1024x16 ![0, 1] bcast_S1024x1_S1024x16_0_1 (broadcastInDim S1024x1 ![0] bcast_S1024_S1024x1_0
    (Host.reduce FloatOps.maximumf (scoresT x rw) (constant (F := Ideal) S_ .f32 0xFF800000#32) reducesTo_S1024x16_S1024_d1 h_S_))))

/-- The probabilities. -/
def probsT : FVec Ideal S1024x16 .f32 :=
  Host.divf (expsT x rw) (broadcastInDim S1024x16 ![0, 1] bcast_S1024x1_S1024x16_0_1 (broadcastInDim S1024x1 ![0] bcast_S1024_S1024x1_0
    (Host.reduceAdd (expsT x rw) (constant (F := Ideal) S_ .f32 0x00000000#32) reducesTo_S1024x16_S1024_d1 h_S_)))

/-- Each token's probability of its expert. -/
def chosenT : FVec Ideal S1024x1 .f32 :=
  Host.gather gather_S1024x16_S1024x1x1_S1024x1_n_1_0_0_1_2_11 (probsT x rw)
    (shapeCast S1024x1x1 (select (cmpi .slt e (broadcastInDim S1024x1 ![] bcast_S_S1024x1 (constantI S_ 32 0#32)))
      (addi e (broadcastInDim S1024x1 ![] bcast_S_S1024x1 (constantI S_ 32 16#32))) e) shapeCasts_S1024x1_S1024x1x1)

/-- Each token's expert's weights. -/
def weightsT : FVec Ideal S1024x256x512 .f32 :=
  Host.gather gather_S16x256x512_S1024x1_S1024x256x512_12_0_n_n_0_1_1256512 (extf .f32 w bitsLt_bf16_f32)
    (broadcastInDim S1024x1 ![0] bcast_S1024_S1024x1_0 (shapeCast S1024 e shapeCasts_S1024x1_S1024))

/-- Each token times its expert's weights. -/
def productT : FVec Ideal S1024x512 .f32 :=
  Host.dotGeneral dot_S1024x256_S1024x256x512_S1024x512_1_1_n_2_0_0 none (extf .f32 x bitsLt_bf16_f32) (weightsT e w)

/-- The reference's result. -/
def result : FVec Ideal S1024x512 .f32 :=
  addf (Host.dotGeneral dot_S1024x256_S256x512_S1024x512_1_0_0_1_n_n none (extf .f32 x bitsLt_bf16_f32) (extf .f32 sw bitsLt_bf16_f32))
    (select (broadcastInDim S1024x512 ![0, 1] bcast_S1024x1_S1024x512_0_1
        (andi (cmpi .sge e (broadcastInDim S1024x1 ![] bcast_S_S1024x1 (constantI S_ 32 0#32)))
          (cmpi .slt e (broadcastInDim S1024x1 ![] bcast_S_S1024x1 (constantI S_ 32 16#32)))))
      (mulf (broadcastInDim S1024x512 ![0, 1] bcast_S1024x1_S1024x512_0_1 (chosenT x rw e)) (productT x e w))
      (broadcastInDim S1024x512 ![] bcast_S_S1024x512 (id (constant (F := Ideal) S_ .f32 0x00000000#32))))

/-- A probability is the softmax of the token's scores. -/
theorem probsT_apply (t : Fin 1024) (g : Fin 16) :
    probsT x rw (ix2 t g) = softmax (scores (fun k => x (ix2 t k)) fun k h => rw (ix2 k h)) g := by
  pointwise [probsT, expsT, scoresT]
  rfl

/-- The probability looked up for a token. -/
theorem chosenT_apply (t : Fin 1024) :
    chosenT x rw e (ix2 t 0) = softmax (scores (fun k => x (ix2 t k)) fun k h => rw (ix2 k h))
      (clamped (Scalar.select (IntOp.cmpi .slt (e (ix2 t 0)) 0#32) (IntOp.addi (e (ix2 t 0)) 16#32) (e (ix2 t 0)))) := by
  unfold chosenT
  rw [gather_prob, probsT_apply]
  pointwise

/-- The weights looked up for a token. -/
theorem weightsT_apply (t : Fin 1024) (k : Fin 256) (f : Fin 512) :
    weightsT e w (ix3 t k f) = w (ix3 (clamped (e (ix2 t 0))) k f) := by
  unfold weightsT
  rw [gather_weights]
  pointwise

/-- A token's product with the weights looked up for it. -/
theorem productT_apply (t : Fin 1024) (f : Fin 512) :
    productT x e w (ix2 t f) = ∑ k : Fin 256, x (ix2 t k) * w (ix3 (clamped (e (ix2 t 0))) k f) := by
  pointwise [productT]
  exact Finset.sum_congr rfl fun k _ => by rw [weightsT_apply]

/-- The result at a token and a column. -/
theorem result_apply (t : Fin 1024) (f : Fin 512) :
    result x rw e w sw (ix2 t f) = (∑ k : Fin 256, x (ix2 t k) * sw (ix2 k f))
      + mix (e (ix2 t 0)) fun g => softmax (scores (fun k => x (ix2 t k)) fun k h => rw (ix2 k h)) g
          * ∑ k : Fin 256, x (ix2 t k) * w (ix3 g k f) := by
  rw [← lookup_eq_mix (e (ix2 t 0)) _ fun g => ∑ k : Fin 256, x (ix2 t k) * w (ix3 g k f)]
  pointwise [result, id]
  rw [chosenT_apply, productT_apply]

end Cert.ReferenceIdeal.Lookup

end
-- ==== Proof.Layer.lean ====
/-
# The kernel's blocks are the reference's

Each device's result block, entry by entry, is the reference's result at the same token and column: the shared expert's
product, the device's own four experts and its three peers' twelve, of which only the token's own expert counts.
-/
module

public import proofs.«01_k».proof.Proof.KernelIdeal.Entries
public import proofs.«01_k».proof.Proof.KernelIdeal.Final
public import proofs.«01_k».proof.Proof.Reference
public import proofs.«01_k».proof.Defs

@[expose] public section

noncomputable section

namespace Cert.KernelIdeal.Mesh

open Cert.KernelIdeal Cert.KernelIdeal.Gen
open Cert.Proof

open Idealize.ShloMosaic
open Idealize.ShloMosaic.TcCoe
open Idealize.SL.Sem

variable (m : (ℓ : Loc nD τ sig) → Buf (Elt Ideal) ℓ) (ρ : Dev nD → PrngReg)

/-- The whole batch's row of device `c`'s row `r`. -/
def row (c : Dev nD) (r : Fin 256) : Fin 1024 := ⟨256 * c.val + r.val, by have : c.val < 4 := c.isLt; omega⟩

section loads
variable (c d : Dev nD)

/-- The rows read for device `c`'s chunk are its rows of the batch. -/
theorem ldX_apply (o : Fin 2 → ℕ) (h) (ho : o = ![256 * c.val, 0]) (r k : Fin 256) :
    ldX m ρ d o h (ix2 r k) = m ((d : Thread nD τ).loc main_arg0) (ix2 (row c r) k) := by
  subst ho
  rw [← stg0_eq m ρ d]
  refine congrArg (stg0 m ρ d) (funext fun a => Fin.ext ?_)
  match a with
  | ⟨0, _⟩ => show 256 * c.val + 1 * r.val = 256 * c.val + r.val; omega
  | ⟨1, _⟩ => show 0 + 1 * k.val = k.val; omega

/-- So are the expert numbers. -/
theorem ldE_apply (o : Fin 2 → ℕ) (h) (ho : o = ![256 * c.val, 0]) (r : Fin 256) :
    ldE m ρ d o h (ix2 r 0) = m ((d : Thread nD τ).loc main_arg2) (ix2 (row c r) 0) := by
  subst ho
  rw [← stg2_eq m ρ d]
  refine congrArg (stg2 m ρ d) (funext fun a => Fin.ext ?_)
  match a with
  | ⟨0, _⟩ => show 256 * c.val + 1 * r.val = 256 * c.val + r.val; omega
  | ⟨1, _⟩ => rfl

/-- The router's weights are read whole. -/
theorem ldR_apply (k : Fin 256) (g : Fin 16) : ldR m ρ d (ix2 k g) = m ((d : Thread nD τ).loc main_arg1) (ix2 k g) := by
  rw [← stg1_eq m ρ d]
  refine congrArg (stg1 m ρ d) (funext fun a => Fin.ext ?_)
  match a with
  | ⟨0, _⟩ => show 0 + 1 * k.val = k.val; omega
  | ⟨1, _⟩ => show 0 + 1 * g.val = g.val; omega

/-- The weights of a device's expert `j` are matrix `j` of its block. -/
theorem ldW_apply (j : Fin 4) (k : Fin 256) (f : Fin 512) :
    ldW m ρ d j (ix3 0 k f) = m ((d : Thread nD τ).loc main_arg3) (ix3 j k f) := by
  rw [← stg3_eq m ρ d]
  refine congrArg (stg3 m ρ d) (funext fun a => Fin.ext ?_)
  match a with
  | ⟨0, _⟩ => show j.val + 1 * 0 = j.val; omega
  | ⟨1, _⟩ => show 0 + 1 * k.val = k.val; omega
  | ⟨2, _⟩ => show 0 + 1 * f.val = f.val; omega

/-- The shared expert's weights are read whole. -/
theorem ldS_apply (k : Fin 256) (f : Fin 512) : ldS m ρ d (ix2 k f) = m ((d : Thread nD τ).loc main_arg4) (ix2 k f) := by
  rw [← stg4_eq m ρ d]
  refine congrArg (stg4 m ρ d) (funext fun a => Fin.ext ?_)
  match a with
  | ⟨0, _⟩ => show 0 + 1 * k.val = k.val; omega
  | ⟨1, _⟩ => show 0 + 1 * f.val = f.val; omega

end loads

/-- What a device puts in slot `k` for a peer is computed from that peer's rows. -/
theorem peer_row : ∀ (c : Dev nD) (k : Fin 3), ((peer c k).val + k.rev.val + 1) % 4 = c.val := by decide
/-- The rows it reads start at that peer's first row; -/
theorem peer_offX (c : Dev nD) (k : Fin 3) : k0_off1 (peer c k) (BitVec.ofNat 32 (1 + k.rev.val)) = ![256 * c.val, 0] := by
  rw [k0_off1_eq, peer_row]
/-- so do the expert numbers. -/
theorem peer_offE (c : Dev nD) (k : Fin 3) : k0_off2 (peer c k) (BitVec.ofNat 32 (1 + k.rev.val)) = ![256 * c.val, 0] := by
  rw [k0_off2_eq, peer_row]

section layer
variable (X : FVec Ideal S1024x256 .bf16) (R : FVec Ideal S256x16 .bf16) (E : IVec S1024x1 32)
variable (W : FVec Ideal ⟨3, ![16, 256, 512]⟩ .bf16) (S : FVec Ideal S256x512 .bf16)

/-- One expert's probability times its product, at a token and a column. -/
def expertTerm (t : Fin 1024) (f : Fin 512) (g : Fin 16) : EReal :=
  softmax (scores (fun k => X (ix2 t k)) fun k h => R (ix2 k h)) g * ∑ k : Fin 256, X (ix2 t k) * W (ix3 g k f)

/-- Device `d`'s part of the layer at a token and a column: its four experts. -/
def devicePart (t : Fin 1024) (f : Fin 512) (d : Fin 4) : EReal :=
  ∑ j : Fin 4, if E (ix2 t 0) = BitVec.ofNat 32 (expert d j).val then expertTerm X R W t f (expert d j) else 0

/-- The layer's routed part is the sum of the four devices' parts. -/
theorem mix_devices (t : Fin 1024) (f : Fin 512) :
    mix (E (ix2 t 0)) (expertTerm X R W t f) = ∑ d, devicePart X R E W t f d :=
  sum_experts fun g => if E (ix2 t 0) = BitVec.ofNat 32 g.val then expertTerm X R W t f g else 0

variable (h0 : ∀ c : Dev nD, m ((c : Thread nD τ).loc main_arg0) = X) (h1 : ∀ c : Dev nD, m ((c : Thread nD τ).loc main_arg1) = R)
variable (h2 : ∀ c : Dev nD, m ((c : Thread nD τ).loc main_arg2) = E)
variable (h3 : ∀ c : Dev nD, m ((c : Thread nD τ).loc main_arg3) = Layout.block ⟨3, ![4, 256, 512]⟩ ⟨3, ![16, 256, 512]⟩ 0 4 c W)
variable (h4 : ∀ c : Dev nD, m ((c : Thread nD τ).loc main_arg4) = S)
include h0 h1 h2 h3

/-- A device's weights of its expert `j` are the whole array's of that expert. -/
theorem weights_eq (d : Dev nD) (j : Fin 4) (k : Fin 256) (f : Fin 512) :
    m ((d : Thread nD τ).loc main_arg3) (ix3 j k f) = W (ix3 (expert d j) k f) := by
  rw [h3 d]
  refine congrArg W (funext fun a => Fin.ext ?_)
  match a with
  | ⟨0, _⟩ => show d.val * 4 + j.val = 4 * d.val + j.val; omega
  | ⟨1, _⟩ => rfl
  | ⟨2, _⟩ => rfl

/-- What device `d` computes for device `c`'s rows. -/
theorem part_eq (c d : Dev nD) (o o' : Fin 2 → ℕ) (h h') (ho : o = ![256 * c.val, 0]) (ho' : o' = ![256 * c.val, 0])
    (r : Fin 256) (f : Fin 512) :
    partialSum d (ldX m ρ d o h) (ldR m ρ d) (ldE m ρ d o' h') (ldW m ρ d) (ix2 r f) = devicePart X R E W (row c r) f d := by
  rw [partialSum_apply]
  simp only [ldX_apply m ρ c d o h ho, ldE_apply m ρ c d o' h' ho', ldR_apply, ldW_apply, weights_eq m X R E W h0 h1 h2 h3, h0, h1, h2]
  rfl

/-- The message that a peer sends to `c`. -/
theorem msg_eq (c : Dev nD) (k : Fin 3) (r : Fin 256) (f : Fin 512) :
    msg m ρ (peer c k) k (ix3 0 r f) = devicePart X R E W (row c r) f (peer c k) := by
  match k with
  | 0 =>
    show sent0 _ _ _ _ _ _ = _
    rw [sent0_eq, sent_apply]
    exact part_eq m ρ X R E W h0 h1 h2 h3 c _ _ _ _ _ (peer_offX c 0) (peer_offE c 0) r f
  | 1 =>
    show sent1 _ _ _ _ _ _ = _
    rw [sent1_eq, sent_apply]
    exact part_eq m ρ X R E W h0 h1 h2 h3 c _ _ _ _ _ (peer_offX c 1) (peer_offE c 1) r f
  | 2 =>
    show sent2 _ _ _ _ _ _ = _
    rw [sent2_eq, sent_apply]
    exact part_eq m ρ X R E W h0 h1 h2 h3 c _ _ _ _ _ (peer_offX c 2) (peer_offE c 2) r f

include h4 in
/-- A device's result block at an entry. -/
theorem outAt_apply (c : Dev nD) (r : Fin 256) (f : Fin 512) :
    outAt m ρ c (ix2 r f) = (∑ k : Fin 256, X (ix2 (row c r) k) * S (ix2 k f))
      + mix (E (ix2 (row c r) 0)) (expertTerm X R W (row c r) f) := by
  rw [mix_devices, ← sum_from _ c]
  unfold outAt
  rw [total_apply, own_apply]
  rw [msg_eq m ρ X R E W h0 h1 h2 h3, msg_eq m ρ X R E W h0 h1 h2 h3, msg_eq m ρ X R E W h0 h1 h2 h3,
    part_eq m ρ X R E W h0 h1 h2 h3 c c _ _ _ _ (k0_off3_eq c) (k0_off4_eq c)]
  simp only [ldX_apply m ρ c c _ _ (k0_off3_eq c), ldS_apply, h0, h4]
  rw [add_assoc, add_assoc, add_assoc, add_assoc, add_assoc]
  rfl

include h4 in
/-- A device's result block is its block of the reference's result. -/
theorem outAt_eq (c : Dev nD) :
    outAt m ρ c = Layout.block ⟨2, ![256, 512]⟩ ⟨2, ![1024, 512]⟩ 0 4 c (Cert.ReferenceIdeal.Lookup.result X R E W S) := by
  funext i
  obtain ⟨r, f, rfl⟩ : ∃ (r : Fin 256) (f : Fin 512), i = ix2 r f := ⟨i 0, i 1, by funext a; match a with | ⟨0, _⟩ => rfl | ⟨1, _⟩ => rfl⟩
  rw [outAt_apply m ρ X R E W S h0 h1 h2 h3 h4]
  refine (Cert.ReferenceIdeal.Lookup.result_apply X R E W S (row c r) f).symm.trans ?_
  refine congrArg (Cert.ReferenceIdeal.Lookup.result X R E W S) (funext fun a => Fin.ext ?_)
  match a with
  | ⟨0, _⟩ => show 256 * c.val + r.val = c.val * 256 + r.val; omega
  | ⟨1, _⟩ => rfl

end layer

end Cert.KernelIdeal.Mesh

namespace Cert.Proof

open Idealize.ShloMosaic Idealize.ShloMosaic.TcCoe Idealize.SL.Sem

/-- Over the extended reals the kernel's four blocks are the reference's result, cut by rows. -/
theorem algebraic : algebraic_KernelIdeal_ReferenceIdeal (hKernelIdeal := Cert.KernelIdeal.Gen.facts)
    (hReferenceIdeal := Cert.ReferenceIdeal.Gen.facts) := by
  intro m g m' g' _ h
  refine ⟨_, ?_, (θ_run _ _ _).mono (fun r hr => hr 0) (Cert.ReferenceIdeal.Value.run m' g')⟩
  refine (θ_run _ _ _).mono (fun r hr c => ⟨?_, (hr.1 c).2⟩) (Cert.KernelIdeal.Mesh.run_final m g)
  exact (hr.1 c).1.trans (Cert.KernelIdeal.Mesh.outAt_eq m g _ _ _ _ _ (fun c => (h c).1) (fun c => (h c).2.1) (fun c => (h c).2.2.1)
    (fun c => (h c).2.2.2.1) (fun c => (h c).2.2.2.2) c)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Layer
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
